-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_experts_exist_KernelIdeal [hPre_experts_exist_KernelIdeal : Cert.Pre_experts_exist_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist_ReferenceIdeal [hPre_experts_exist_ReferenceIdeal : Cert.Pre_experts_exist_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_experts_exist_KernelIdeal [hKernelIdeal : Cert.KernelIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_experts_exist_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_experts_exist_ReferenceIdeal [hReferenceIdeal : Cert.ReferenceIdeal.Facts] [hPre_experts_exist_ReferenceIdeal : Cert.Pre_experts_exist_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_experts_exist_KernelIdeal [hKernelIdeal : Cert.KernelIdeal.Facts] [hReferenceIdeal : Cert.ReferenceIdeal.Facts] [hPre_experts_exist_KernelIdeal : Cert.Pre_experts_exist_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_experts_exist_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![64, 128, 256]⟩ 0 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v71) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_experts_exist_KernelIdeal : Cert.Pre_experts_exist_KernelIdeal.Facts) (hPre_experts_exist_ReferenceIdeal : Cert.Pre_experts_exist_ReferenceIdeal.Facts),
    quiescent_Kernel (hKernel := hKernel)
    ∧ quiescent_KernelIdeal (hKernelIdeal := hKernelIdeal)
    ∧ quiescent_KernelIdeal_pre_experts_exist_KernelIdeal (hKernelIdeal := hKernelIdeal) (hPre_experts_exist_KernelIdeal := hPre_experts_exist_KernelIdeal)
    ∧ quiescent_ReferenceIdeal (hReferenceIdeal := hReferenceIdeal)
    ∧ quiescent_ReferenceIdeal_pre_experts_exist_ReferenceIdeal (hReferenceIdeal := hReferenceIdeal) (hPre_experts_exist_ReferenceIdeal := hPre_experts_exist_ReferenceIdeal)
    ∧ preserves_Kernel_KernelIdeal
    ∧ algebraic_KernelIdeal_ReferenceIdeal_pre_experts_exist_KernelIdeal (hKernelIdeal := hKernelIdeal) (hReferenceIdeal := hReferenceIdeal) (hPre_experts_exist_KernelIdeal := hPre_experts_exist_KernelIdeal)
-- ==== Pre_experts_exist_KernelIdeal.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S_ : Shape := ⟨0, ![]⟩

class Facts : Prop where
  bcast_S_S256x2 : S_.BroadcastsInDim S256x2 (![] : Fin 0 → Fin S256x2.rank)

variable [Facts]

def fn {F : FTy → Type} [FloatOps F] (main_arg0 : FVec F S256x128 .bf16) (main_arg1 : FVec F S128x64 .bf16) (main_arg2 : IVec S256x2 32) (main_arg3 : FVec F S2x128x256 .bf16) : IVec S256x2 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 64#32
  let main_v2 : IVec S256x2 32 := broadcastInDim S256x2 ![] bcast_S_S256x2 main_c_0
  let main_v3 : IVec S256x2 1 := cmpi .slt main_arg2 main_v2
  let main_v4 : IVec S256x2 1 := andi main_v1 main_v3
  main_v4
-- ==== Pre_experts_exist_ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S_ : Shape := ⟨0, ![]⟩

class Facts : Prop where
  bcast_S_S256x2 : S_.BroadcastsInDim S256x2 (![] : Fin 0 → Fin S256x2.rank)

variable [Facts]

def fn {F : FTy → Type} [FloatOps F] (main_arg0 : FVec F S256x128 .bf16) (main_arg1 : FVec F S128x64 .bf16) (main_arg2 : IVec S256x2 32) (main_arg3 : FVec F S64x128x256 .bf16) : IVec S256x2 1 :=
  let main_c : IVec S_ 32 := constantI S_ 32 0#32
  let main_v0 : IVec S256x2 32 := broadcastInDim S256x2 ![] bcast_S_S256x2 main_c
  let main_v1 : IVec S256x2 1 := cmpi .sge main_arg2 main_v0
  let main_c_0 : IVec S_ 32 := constantI S_ 32 64#32
  let main_v2 : IVec S256x2 32 := broadcastInDim S256x2 ![] bcast_S_S256x2 main_c_0
  let main_v3 : IVec S256x2 1 := cmpi .slt main_arg2 main_v2
  let main_v4 : IVec S256x2 1 := andi main_v1 main_v3
  main_v4
-- ==== Kernel.lean ====
abbrev S256x128 : Shape := ⟨2, ![256, 128]⟩
abbrev S128x64 : Shape := ⟨2, ![128, 64]⟩
abbrev S256x2 : Shape := ⟨2, ![256, 2]⟩
abbrev S2x128x256 : Shape := ⟨3, ![2, 128, 256]⟩
abbrev S256x256 : Shape := ⟨2, ![256, 256]⟩
abbrev S8x256 : Shape := ⟨2, ![8, 256]⟩
abbrev S32x8x256 : Shape := ⟨3, ![32, 8, 256]⟩
abbrev S31 : Shape := ⟨1, ![31]⟩
abbrev S32 : Shape := ⟨1, ![32]⟩
abbrev S_ : Shape := ⟨0, ![]⟩
abbrev S256x64 : Shape := ⟨2, ![256, 64]⟩
abbrev S256 : Shape := ⟨1, ![256]⟩
abbrev S256x1 : Shape := ⟨2, ![256, 1]⟩
abbrev S1x128x256 : Shape := ⟨3, ![1, 128, 256]⟩
abbrev S128x256 : Shape := ⟨2, ![128, 256]⟩
abbrev S1 : Shape := ⟨1, ![1]⟩
abbrev S1x8x256 : Shape := ⟨3, ![1, 8, 256]⟩

abbrev nBuf : Space → Nat
  | .hbm => 5
  | .vmem => 9
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x2, .i32⟩
  | .hbm, ⟨3, _⟩ => ⟨S2x128x256, .bf16⟩
  | .hbm, ⟨4, _⟩ => ⟨S256x256, .f32⟩
  | .local _ .vmem, ⟨0, _⟩ => ⟨S256x128, .bf16⟩
  | .local _ .vmem, ⟨1, _⟩ => ⟨S128x64, .bf16⟩
  | .local _ .vmem, ⟨2, _⟩ => ⟨S256x2, .i32⟩
  | .local _ .vmem, ⟨3, _⟩ => ⟨S2x128x256, .bf16⟩
  | .local _ .vmem, ⟨4, _⟩ => ⟨S256x256, .f32⟩
  | .local _ .vmem, ⟨5, _⟩ => ⟨S256x256, .bf16⟩
  | .local _ .vmem, ⟨6, _⟩ => ⟨S8x256, .bf16⟩
  | .local _ .vmem, ⟨7, _⟩ => ⟨S32x8x256, .bf16⟩
  | .local _ .vmem, ⟨8, _⟩ => ⟨S32x8x256, .bf16⟩
  | _, _ => ⟨S256x128, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 131 → Bool
  | ⟨i, _⟩ => dmaSemScopedAt i

abbrev sig : RefSig :=
  (ofTc nBuf bufTy 1 131 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c31_i32 : BitVec 32 := 31#32
  let v5 : BitVec 32 := Scalar.andi v4 c31_i32
  let c1_i32_2 : BitVec 32 := 1#32
  let v6 : BitVec 32 := Scalar.muli v5 c1_i32_2
  let v7 : BitVec 32 := Scalar.addi c0_i32 v6
  v7.toNat
def k0_dev2 (d0 : Dev nD) : Nat :=
  let c0_i32_6 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c31_i32_3 : BitVec 32 := 31#32
  let v9 : BitVec 32 := Scalar.andi v8 c31_i32_3
  let c1_i32_5 : BitVec 32 := 1#32
  let v10 : BitVec 32 := Scalar.muli v9 c1_i32_5
  let v11 : BitVec 32 := Scalar.addi c0_i32_6 v10
  v11.toNat
def k0_dev3 (d0 : Dev nD) : Nat :=
  let c0_i32_10 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c31_i32_7 : BitVec 32 := 31#32
  let v13 : BitVec 32 := Scalar.andi v12 c31_i32_7
  let c1_i32_9 : BitVec 32 := 1#32
  let v14 : BitVec 32 := Scalar.muli v13 c1_i32_9
  let v15 : BitVec 32 := Scalar.addi c0_i32_10 v14
  v15.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c31_i32_11 : BitVec 32 := 31#32
  let v17 : BitVec 32 := Scalar.andi v16 c31_i32_11
  let c1_i32_13 : BitVec 32 := 1#32
  let v18 : BitVec 32 := Scalar.muli v17 c1_i32_13
  let v19 : BitVec 32 := Scalar.addi c0_i32_14 v18
  v19.toNat
def k0_dev5 (d0 : Dev nD) : Nat :=
  let c0_i32_18 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c31_i32_15 : BitVec 32 := 31#32
  let v21 : BitVec 32 := Scalar.andi v20 c31_i32_15
  let c1_i32_17 : BitVec 32 := 1#32
  let v22 : BitVec 32 := Scalar.muli v21 c1_i32_17
  let v23 : BitVec 32 := Scalar.addi c0_i32_18 v22
  v23.toNat
def k0_dev6 (d0 : Dev nD) : Nat :=
  let c0_i32_22 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c31_i32_19 : BitVec 32 := 31#32
  let v25 : BitVec 32 := Scalar.andi v24 c31_i32_19
  let c1_i32_21 : BitVec 32 := 1#32
  let v26 : BitVec 32 := Scalar.muli v25 c1_i32_21
  let v27 : BitVec 32 := Scalar.addi c0_i32_22 v26
  v27.toNat
def k0_dev7 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c31_i32_23 : BitVec 32 := 31#32
  let v29 : BitVec 32 := Scalar.andi v28 c31_i32_23
  let c1_i32_25 : BitVec 32 := 1#32
  let v30 : BitVec 32 := Scalar.muli v29 c1_i32_25
  let v31 : BitVec 32 := Scalar.addi c0_i32_26 v30
  v31.toNat
def k0_dev8 (d0 : Dev nD) : Nat :=
  let c0_i32_30 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c31_i32_27 : BitVec 32 := 31#32
  let v33 : BitVec 32 := Scalar.andi v32 c31_i32_27
  let c1_i32_29 : BitVec 32 := 1#32
  let v34 : BitVec 32 := Scalar.muli v33 c1_i32_29
  let v35 : BitVec 32 := Scalar.addi c0_i32_30 v34
  v35.toNat
def k0_dev9 (d0 : Dev nD) : Nat :=
  let c0_i32_34 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c31_i32_31 : BitVec 32 := 31#32
  let v37 : BitVec 32 := Scalar.andi v36 c31_i32_31
  let c1_i32_33 : BitVec 32 := 1#32
  let v38 : BitVec 32 := Scalar.muli v37 c1_i32_33
  let v39 : BitVec 32 := Scalar.addi c0_i32_34 v38
  v39.toNat
def k0_dev10 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c31_i32_35 : BitVec 32 := 31#32
  let v41 : BitVec 32 := Scalar.andi v40 c31_i32_35
  let c1_i32_37 : BitVec 32 := 1#32
  let v42 : BitVec 32 := Scalar.muli v41 c1_i32_37
  let v43 : BitVec 32 := Scalar.addi c0_i32_38 v42
  v43.toNat
def k0_dev11 (d0 : Dev nD) : Nat :=
  let c0_i32_42 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c31_i32_39 : BitVec 32 := 31#32
  let v45 : BitVec 32 := Scalar.andi v44 c31_i32_39
  let c1_i32_41 : BitVec 32 := 1#32
  let v46 : BitVec 32 := Scalar.muli v45 c1_i32_41
  let v47 : BitVec 32 := Scalar.addi c0_i32_42 v46
  v47.toNat
def k0_dev12 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c31_i32_43 : BitVec 32 := 31#32
  let v49 : BitVec 32 := Scalar.andi v48 c31_i32_43
  let c1_i32_45 : BitVec 32 := 1#32
  let v50 : BitVec 32 := Scalar.muli v49 c1_i32_45
  let v51 : BitVec 32 := Scalar.addi c0_i32_46 v50
  v51.toNat
def k0_dev13 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c31_i32_47 : BitVec 32 := 31#32
  let v53 : BitVec 32 := Scalar.andi v52 c31_i32_47
  let c1_i32_49 : BitVec 32 := 1#32
  let v54 : BitVec 32 := Scalar.muli v53 c1_i32_49
  let v55 : BitVec 32 := Scalar.addi c0_i32_50 v54
  v55.toNat
def k0_dev14 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c31_i32_51 : BitVec 32 := 31#32
  let v57 : BitVec 32 := Scalar.andi v56 c31_i32_51
  let c1_i32_53 : BitVec 32 := 1#32
  let v58 : BitVec 32 := Scalar.muli v57 c1_i32_53
  let v59 : BitVec 32 := Scalar.addi c0_i32_54 v58
  v59.toNat
def k0_dev15 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c31_i32_55 : BitVec 32 := 31#32
  let v61 : BitVec 32 := Scalar.andi v60 c31_i32_55
  let c1_i32_57 : BitVec 32 := 1#32
  let v62 : BitVec 32 := Scalar.muli v61 c1_i32_57
  let v63 : BitVec 32 := Scalar.addi c0_i32_58 v62
  v63.toNat
def k0_dev16 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c31_i32_59 : BitVec 32 := 31#32
  let v65 : BitVec 32 := Scalar.andi v64 c31_i32_59
  let c1_i32_61 : BitVec 32 := 1#32
  let v66 : BitVec 32 := Scalar.muli v65 c1_i32_61
  let v67 : BitVec 32 := Scalar.addi c0_i32_62 v66
  v67.toNat
def k0_dev17 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c31_i32_63 : BitVec 32 := 31#32
  let v69 : BitVec 32 := Scalar.andi v68 c31_i32_63
  let c1_i32_65 : BitVec 32 := 1#32
  let v70 : BitVec 32 := Scalar.muli v69 c1_i32_65
  let v71 : BitVec 32 := Scalar.addi c0_i32_66 v70
  v71.toNat
def k0_dev18 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c31_i32_67 : BitVec 32 := 31#32
  let v73 : BitVec 32 := Scalar.andi v72 c31_i32_67
  let c1_i32_69 : BitVec 32 := 1#32
  let v74 : BitVec 32 := Scalar.muli v73 c1_i32_69
  let v75 : BitVec 32 := Scalar.addi c0_i32_70 v74
  v75.toNat
def k0_dev19 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c31_i32_71 : BitVec 32 := 31#32
  let v77 : BitVec 32 := Scalar.andi v76 c31_i32_71
  let c1_i32_73 : BitVec 32 := 1#32
  let v78 : BitVec 32 := Scalar.muli v77 c1_i32_73
  let v79 : BitVec 32 := Scalar.addi c0_i32_74 v78
  v79.toNat
def k0_dev20 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c31_i32_75 : BitVec 32 := 31#32
  let v81 : BitVec 32 := Scalar.andi v80 c31_i32_75
  let c1_i32_77 : BitVec 32 := 1#32
  let v82 : BitVec 32 := Scalar.muli v81 c1_i32_77
  let v83 : BitVec 32 := Scalar.addi c0_i32_78 v82
  v83.toNat
def k0_dev21 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c31_i32_79 : BitVec 32 := 31#32
  let v85 : BitVec 32 := Scalar.andi v84 c31_i32_79
  let c1_i32_81 : BitVec 32 := 1#32
  let v86 : BitVec 32 := Scalar.muli v85 c1_i32_81
  let v87 : BitVec 32 := Scalar.addi c0_i32_82 v86
  v87.toNat
def k0_dev22 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c31_i32_83 : BitVec 32 := 31#32
  let v89 : BitVec 32 := Scalar.andi v88 c31_i32_83
  let c1_i32_85 : BitVec 32 := 1#32
  let v90 : BitVec 32 := Scalar.muli v89 c1_i32_85
  let v91 : BitVec 32 := Scalar.addi c0_i32_86 v90
  v91.toNat
def k0_dev23 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c31_i32_87 : BitVec 32 := 31#32
  let v93 : BitVec 32 := Scalar.andi v92 c31_i32_87
  let c1_i32_89 : BitVec 32 := 1#32
  let v94 : BitVec 32 := Scalar.muli v93 c1_i32_89
  let v95 : BitVec 32 := Scalar.addi c0_i32_90 v94
  v95.toNat
def k0_dev24 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c31_i32_91 : BitVec 32 := 31#32
  let v97 : BitVec 32 := Scalar.andi v96 c31_i32_91
  let c1_i32_93 : BitVec 32 := 1#32
  let v98 : BitVec 32 := Scalar.muli v97 c1_i32_93
  let v99 : BitVec 32 := Scalar.addi c0_i32_94 v98
  v99.toNat
def k0_dev25 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c31_i32_95 : BitVec 32 := 31#32
  let v101 : BitVec 32 := Scalar.andi v100 c31_i32_95
  let c1_i32_97 : BitVec 32 := 1#32
  let v102 : BitVec 32 := Scalar.muli v101 c1_i32_97
  let v103 : BitVec 32 := Scalar.addi c0_i32_98 v102
  v103.toNat
def k0_dev26 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c31_i32_99 : BitVec 32 := 31#32
  let v105 : BitVec 32 := Scalar.andi v104 c31_i32_99
  let c1_i32_101 : BitVec 32 := 1#32
  let v106 : BitVec 32 := Scalar.muli v105 c1_i32_101
  let v107 : BitVec 32 := Scalar.addi c0_i32_102 v106
  v107.toNat
def k0_dev27 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c31_i32_103 : BitVec 32 := 31#32
  let v109 : BitVec 32 := Scalar.andi v108 c31_i32_103
  let c1_i32_105 : BitVec 32 := 1#32
  let v110 : BitVec 32 := Scalar.muli v109 c1_i32_105
  let v111 : BitVec 32 := Scalar.addi c0_i32_106 v110
  v111.toNat
def k0_dev28 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c31_i32_107 : BitVec 32 := 31#32
  let v113 : BitVec 32 := Scalar.andi v112 c31_i32_107
  let c1_i32_109 : BitVec 32 := 1#32
  let v114 : BitVec 32 := Scalar.muli v113 c1_i32_109
  let v115 : BitVec 32 := Scalar.addi c0_i32_110 v114
  v115.toNat
def k0_dev29 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c31_i32_111 : BitVec 32 := 31#32
  let v117 : BitVec 32 := Scalar.andi v116 c31_i32_111
  let c1_i32_113 : BitVec 32 := 1#32
  let v118 : BitVec 32 := Scalar.muli v117 c1_i32_113
  let v119 : BitVec 32 := Scalar.addi c0_i32_114 v118
  v119.toNat
def k0_dev30 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c31_i32_115 : BitVec 32 := 31#32
  let v121 : BitVec 32 := Scalar.andi v120 c31_i32_115
  let c1_i32_117 : BitVec 32 := 1#32
  let v122 : BitVec 32 := Scalar.muli v121 c1_i32_117
  let v123 : BitVec 32 := Scalar.addi c0_i32_118 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_119 : BitVec 32 := 31#32
  let v124 : BitVec 32 := Scalar.addi v2 c31_i32_119
  let c31_i32_120 : BitVec 32 := 31#32
  let v125 : BitVec 32 := Scalar.andi v124 c31_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_162 : BitVec 32 := 0#32
  let c0_i32_163 : BitVec 32 := 0#32
  ![v2.toNat, 0, 0]
def k0_off3 (d0 : Dev nD) (c1_i32_156 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v203 : BitVec 32 := Scalar.addi v2 c1_i32_156
  let c31_i32_157 : BitVec 32 := 31#32
  let v204 : BitVec 32 := Scalar.andi v203 c31_i32_157
  let c8_i32_158 : BitVec 32 := 8#32
  let v205 : BitVec 32 := Scalar.muli v204 c8_i32_158
  let c0_i32_164 : BitVec 32 := 0#32
  ![v205.toNat, 0]
def k0_dev32 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_156 : BitVec 32 := 1#32
  let v203 : BitVec 32 := Scalar.addi v2 c1_i32_156
  let c31_i32_157 : BitVec 32 := 31#32
  let v204 : BitVec 32 := Scalar.andi v203 c31_i32_157
  let c1_i32_160 : BitVec 32 := 1#32
  let v206 : BitVec 32 := Scalar.muli v204 c1_i32_160
  let v207 : BitVec 32 := Scalar.addi c0_i32_161 v206
  v207.toNat
def k0_dev33 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_165 : BitVec 32 := 2#32
  let v215 : BitVec 32 := Scalar.addi v2 c2_i32_165
  let c31_i32_166 : BitVec 32 := 31#32
  let v216 : BitVec 32 := Scalar.andi v215 c31_i32_166
  let c1_i32_169 : BitVec 32 := 1#32
  let v218 : BitVec 32 := Scalar.muli v216 c1_i32_169
  let v219 : BitVec 32 := Scalar.addi c0_i32_170 v218
  v219.toNat
def k0_dev34 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_174 : BitVec 32 := 3#32
  let v227 : BitVec 32 := Scalar.addi v2 c3_i32_174
  let c31_i32_175 : BitVec 32 := 31#32
  let v228 : BitVec 32 := Scalar.andi v227 c31_i32_175
  let c1_i32_178 : BitVec 32 := 1#32
  let v230 : BitVec 32 := Scalar.muli v228 c1_i32_178
  let v231 : BitVec 32 := Scalar.addi c0_i32_179 v230
  v231.toNat
def k0_dev35 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_183 : BitVec 32 := 4#32
  let v239 : BitVec 32 := Scalar.addi v2 c4_i32_183
  let c31_i32_184 : BitVec 32 := 31#32
  let v240 : BitVec 32 := Scalar.andi v239 c31_i32_184
  let c1_i32_187 : BitVec 32 := 1#32
  let v242 : BitVec 32 := Scalar.muli v240 c1_i32_187
  let v243 : BitVec 32 := Scalar.addi c0_i32_188 v242
  v243.toNat
def k0_dev36 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_192 : BitVec 32 := 5#32
  let v251 : BitVec 32 := Scalar.addi v2 c5_i32_192
  let c31_i32_193 : BitVec 32 := 31#32
  let v252 : BitVec 32 := Scalar.andi v251 c31_i32_193
  let c1_i32_196 : BitVec 32 := 1#32
  let v254 : BitVec 32 := Scalar.muli v252 c1_i32_196
  let v255 : BitVec 32 := Scalar.addi c0_i32_197 v254
  v255.toNat
def k0_dev37 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_201 : BitVec 32 := 6#32
  let v263 : BitVec 32 := Scalar.addi v2 c6_i32_201
  let c31_i32_202 : BitVec 32 := 31#32
  let v264 : BitVec 32 := Scalar.andi v263 c31_i32_202
  let c1_i32_205 : BitVec 32 := 1#32
  let v266 : BitVec 32 := Scalar.muli v264 c1_i32_205
  let v267 : BitVec 32 := Scalar.addi c0_i32_206 v266
  v267.toNat
def k0_dev38 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_210 : BitVec 32 := 7#32
  let v275 : BitVec 32 := Scalar.addi v2 c7_i32_210
  let c31_i32_211 : BitVec 32 := 31#32
  let v276 : BitVec 32 := Scalar.andi v275 c31_i32_211
  let c1_i32_214 : BitVec 32 := 1#32
  let v278 : BitVec 32 := Scalar.muli v276 c1_i32_214
  let v279 : BitVec 32 := Scalar.addi c0_i32_215 v278
  v279.toNat
def k0_dev39 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_219 : BitVec 32 := 8#32
  let v287 : BitVec 32 := Scalar.addi v2 c8_i32_219
  let c31_i32_220 : BitVec 32 := 31#32
  let v288 : BitVec 32 := Scalar.andi v287 c31_i32_220
  let c1_i32_223 : BitVec 32 := 1#32
  let v290 : BitVec 32 := Scalar.muli v288 c1_i32_223
  let v291 : BitVec 32 := Scalar.addi c0_i32_224 v290
  v291.toNat
def k0_dev40 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_228 : BitVec 32 := 9#32
  let v299 : BitVec 32 := Scalar.addi v2 c9_i32_228
  let c31_i32_229 : BitVec 32 := 31#32
  let v300 : BitVec 32 := Scalar.andi v299 c31_i32_229
  let c1_i32_232 : BitVec 32 := 1#32
  let v302 : BitVec 32 := Scalar.muli v300 c1_i32_232
  let v303 : BitVec 32 := Scalar.addi c0_i32_233 v302
  v303.toNat
def k0_dev41 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_237 : BitVec 32 := 10#32
  let v311 : BitVec 32 := Scalar.addi v2 c10_i32_237
  let c31_i32_238 : BitVec 32 := 31#32
  let v312 : BitVec 32 := Scalar.andi v311 c31_i32_238
  let c1_i32_241 : BitVec 32 := 1#32
  let v314 : BitVec 32 := Scalar.muli v312 c1_i32_241
  let v315 : BitVec 32 := Scalar.addi c0_i32_242 v314
  v315.toNat
def k0_dev42 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_246 : BitVec 32 := 11#32
  let v323 : BitVec 32 := Scalar.addi v2 c11_i32_246
  let c31_i32_247 : BitVec 32 := 31#32
  let v324 : BitVec 32 := Scalar.andi v323 c31_i32_247
  let c1_i32_250 : BitVec 32 := 1#32
  let v326 : BitVec 32 := Scalar.muli v324 c1_i32_250
  let v327 : BitVec 32 := Scalar.addi c0_i32_251 v326
  v327.toNat
def k0_dev43 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_255 : BitVec 32 := 12#32
  let v335 : BitVec 32 := Scalar.addi v2 c12_i32_255
  let c31_i32_256 : BitVec 32 := 31#32
  let v336 : BitVec 32 := Scalar.andi v335 c31_i32_256
  let c1_i32_259 : BitVec 32 := 1#32
  let v338 : BitVec 32 := Scalar.muli v336 c1_i32_259
  let v339 : BitVec 32 := Scalar.addi c0_i32_260 v338
  v339.toNat
def k0_dev44 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_264 : BitVec 32 := 13#32
  let v347 : BitVec 32 := Scalar.addi v2 c13_i32_264
  let c31_i32_265 : BitVec 32 := 31#32
  let v348 : BitVec 32 := Scalar.andi v347 c31_i32_265
  let c1_i32_268 : BitVec 32 := 1#32
  let v350 : BitVec 32 := Scalar.muli v348 c1_i32_268
  let v351 : BitVec 32 := Scalar.addi c0_i32_269 v350
  v351.toNat
def k0_dev45 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_273 : BitVec 32 := 14#32
  let v359 : BitVec 32 := Scalar.addi v2 c14_i32_273
  let c31_i32_274 : BitVec 32 := 31#32
  let v360 : BitVec 32 := Scalar.andi v359 c31_i32_274
  let c1_i32_277 : BitVec 32 := 1#32
  let v362 : BitVec 32 := Scalar.muli v360 c1_i32_277
  let v363 : BitVec 32 := Scalar.addi c0_i32_278 v362
  v363.toNat
def k0_dev46 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_282 : BitVec 32 := 15#32
  let v371 : BitVec 32 := Scalar.addi v2 c15_i32_282
  let c31_i32_283 : BitVec 32 := 31#32
  let v372 : BitVec 32 := Scalar.andi v371 c31_i32_283
  let c1_i32_286 : BitVec 32 := 1#32
  let v374 : BitVec 32 := Scalar.muli v372 c1_i32_286
  let v375 : BitVec 32 := Scalar.addi c0_i32_287 v374
  v375.toNat
def k0_dev47 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_291 : BitVec 32 := 16#32
  let v383 : BitVec 32 := Scalar.addi v2 c16_i32_291
  let c31_i32_292 : BitVec 32 := 31#32
  let v384 : BitVec 32 := Scalar.andi v383 c31_i32_292
  let c1_i32_295 : BitVec 32 := 1#32
  let v386 : BitVec 32 := Scalar.muli v384 c1_i32_295
  let v387 : BitVec 32 := Scalar.addi c0_i32_296 v386
  v387.toNat
def k0_dev48 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_300 : BitVec 32 := 17#32
  let v395 : BitVec 32 := Scalar.addi v2 c17_i32_300
  let c31_i32_301 : BitVec 32 := 31#32
  let v396 : BitVec 32 := Scalar.andi v395 c31_i32_301
  let c1_i32_304 : BitVec 32 := 1#32
  let v398 : BitVec 32 := Scalar.muli v396 c1_i32_304
  let v399 : BitVec 32 := Scalar.addi c0_i32_305 v398
  v399.toNat
def k0_dev49 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_309 : BitVec 32 := 18#32
  let v407 : BitVec 32 := Scalar.addi v2 c18_i32_309
  let c31_i32_310 : BitVec 32 := 31#32
  let v408 : BitVec 32 := Scalar.andi v407 c31_i32_310
  let c1_i32_313 : BitVec 32 := 1#32
  let v410 : BitVec 32 := Scalar.muli v408 c1_i32_313
  let v411 : BitVec 32 := Scalar.addi c0_i32_314 v410
  v411.toNat
def k0_dev50 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_318 : BitVec 32 := 19#32
  let v419 : BitVec 32 := Scalar.addi v2 c19_i32_318
  let c31_i32_319 : BitVec 32 := 31#32
  let v420 : BitVec 32 := Scalar.andi v419 c31_i32_319
  let c1_i32_322 : BitVec 32 := 1#32
  let v422 : BitVec 32 := Scalar.muli v420 c1_i32_322
  let v423 : BitVec 32 := Scalar.addi c0_i32_323 v422
  v423.toNat
def k0_dev51 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_327 : BitVec 32 := 20#32
  let v431 : BitVec 32 := Scalar.addi v2 c20_i32_327
  let c31_i32_328 : BitVec 32 := 31#32
  let v432 : BitVec 32 := Scalar.andi v431 c31_i32_328
  let c1_i32_331 : BitVec 32 := 1#32
  let v434 : BitVec 32 := Scalar.muli v432 c1_i32_331
  let v435 : BitVec 32 := Scalar.addi c0_i32_332 v434
  v435.toNat
def k0_dev52 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_336 : BitVec 32 := 21#32
  let v443 : BitVec 32 := Scalar.addi v2 c21_i32_336
  let c31_i32_337 : BitVec 32 := 31#32
  let v444 : BitVec 32 := Scalar.andi v443 c31_i32_337
  let c1_i32_340 : BitVec 32 := 1#32
  let v446 : BitVec 32 := Scalar.muli v444 c1_i32_340
  let v447 : BitVec 32 := Scalar.addi c0_i32_341 v446
  v447.toNat
def k0_dev53 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_345 : BitVec 32 := 22#32
  let v455 : BitVec 32 := Scalar.addi v2 c22_i32_345
  let c31_i32_346 : BitVec 32 := 31#32
  let v456 : BitVec 32 := Scalar.andi v455 c31_i32_346
  let c1_i32_349 : BitVec 32 := 1#32
  let v458 : BitVec 32 := Scalar.muli v456 c1_i32_349
  let v459 : BitVec 32 := Scalar.addi c0_i32_350 v458
  v459.toNat
def k0_dev54 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_354 : BitVec 32 := 23#32
  let v467 : BitVec 32 := Scalar.addi v2 c23_i32_354
  let c31_i32_355 : BitVec 32 := 31#32
  let v468 : BitVec 32 := Scalar.andi v467 c31_i32_355
  let c1_i32_358 : BitVec 32 := 1#32
  let v470 : BitVec 32 := Scalar.muli v468 c1_i32_358
  let v471 : BitVec 32 := Scalar.addi c0_i32_359 v470
  v471.toNat
def k0_dev55 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_363 : BitVec 32 := 24#32
  let v479 : BitVec 32 := Scalar.addi v2 c24_i32_363
  let c31_i32_364 : BitVec 32 := 31#32
  let v480 : BitVec 32 := Scalar.andi v479 c31_i32_364
  let c1_i32_367 : BitVec 32 := 1#32
  let v482 : BitVec 32 := Scalar.muli v480 c1_i32_367
  let v483 : BitVec 32 := Scalar.addi c0_i32_368 v482
  v483.toNat
def k0_dev56 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_372 : BitVec 32 := 25#32
  let v491 : BitVec 32 := Scalar.addi v2 c25_i32_372
  let c31_i32_373 : BitVec 32 := 31#32
  let v492 : BitVec 32 := Scalar.andi v491 c31_i32_373
  let c1_i32_376 : BitVec 32 := 1#32
  let v494 : BitVec 32 := Scalar.muli v492 c1_i32_376
  let v495 : BitVec 32 := Scalar.addi c0_i32_377 v494
  v495.toNat
def k0_dev57 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_381 : BitVec 32 := 26#32
  let v503 : BitVec 32 := Scalar.addi v2 c26_i32_381
  let c31_i32_382 : BitVec 32 := 31#32
  let v504 : BitVec 32 := Scalar.andi v503 c31_i32_382
  let c1_i32_385 : BitVec 32 := 1#32
  let v506 : BitVec 32 := Scalar.muli v504 c1_i32_385
  let v507 : BitVec 32 := Scalar.addi c0_i32_386 v506
  v507.toNat
def k0_dev58 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_390 : BitVec 32 := 27#32
  let v515 : BitVec 32 := Scalar.addi v2 c27_i32_390
  let c31_i32_391 : BitVec 32 := 31#32
  let v516 : BitVec 32 := Scalar.andi v515 c31_i32_391
  let c1_i32_394 : BitVec 32 := 1#32
  let v518 : BitVec 32 := Scalar.muli v516 c1_i32_394
  let v519 : BitVec 32 := Scalar.addi c0_i32_395 v518
  v519.toNat
def k0_dev59 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_399 : BitVec 32 := 28#32
  let v527 : BitVec 32 := Scalar.addi v2 c28_i32_399
  let c31_i32_400 : BitVec 32 := 31#32
  let v528 : BitVec 32 := Scalar.andi v527 c31_i32_400
  let c1_i32_403 : BitVec 32 := 1#32
  let v530 : BitVec 32 := Scalar.muli v528 c1_i32_403
  let v531 : BitVec 32 := Scalar.addi c0_i32_404 v530
  v531.toNat
def k0_dev60 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_408 : BitVec 32 := 29#32
  let v539 : BitVec 32 := Scalar.addi v2 c29_i32_408
  let c31_i32_409 : BitVec 32 := 31#32
  let v540 : BitVec 32 := Scalar.andi v539 c31_i32_409
  let c1_i32_412 : BitVec 32 := 1#32
  let v542 : BitVec 32 := Scalar.muli v540 c1_i32_412
  let v543 : BitVec 32 := Scalar.addi c0_i32_413 v542
  v543.toNat
def k0_dev61 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_417 : BitVec 32 := 30#32
  let v551 : BitVec 32 := Scalar.addi v2 c30_i32_417
  let c31_i32_418 : BitVec 32 := 31#32
  let v552 : BitVec 32 := Scalar.andi v551 c31_i32_418
  let c1_i32_421 : BitVec 32 := 1#32
  let v554 : BitVec 32 := Scalar.muli v552 c1_i32_421
  let v555 : BitVec 32 := Scalar.addi c0_i32_422 v554
  v555.toNat
def k0_dev62 (d0 : Dev nD) : Nat :=
  let c0_i32_431 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_426 : BitVec 32 := 31#32
  let v563 : BitVec 32 := Scalar.addi v2 c31_i32_426
  let c31_i32_427 : BitVec 32 := 31#32
  let v564 : BitVec 32 := Scalar.andi v563 c31_i32_427
  let c1_i32_430 : BitVec 32 := 1#32
  let v566 : BitVec 32 := Scalar.muli v564 c1_i32_430
  let v567 : BitVec 32 := Scalar.addi c0_i32_431 v566
  v567.toNat
def k0_off4 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_435 : BitVec 32 := 8#32
  let v575 : BitVec 32 := Scalar.muli v2 c8_i32_435
  let v576 : Index := Scalar.indexCast v575
  let c0_436 : Index := 0#32
  ![v576.toNat, 0]
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v578 : Index := Scalar.indexCast v2
  let c0_437 : Index := 0#32
  let c0_438 : Index := 0#32
  ![v578.toNat, 0, 0]
def k0_off6 (d0 : Dev nD) (c1_i32_439 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v582 : BitVec 32 := Scalar.addi v2 c1_i32_439
  let c31_i32_440 : BitVec 32 := 31#32
  let v583 : BitVec 32 := Scalar.andi v582 c31_i32_440
  ![v583.toNat]
def k0_off7 (d0 : Dev nD) (c1_i32_439 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v582 : BitVec 32 := Scalar.addi v2 c1_i32_439
  let c31_i32_440 : BitVec 32 := 31#32
  let v583 : BitVec 32 := Scalar.andi v582 c31_i32_440
  let c0_i32_444 : BitVec 32 := 0#32
  let c0_i32_445 : BitVec 32 := 0#32
  ![v583.toNat, 0, 0]
def k0_dev63 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_724 : BitVec 32 := 1#32
  let v868 : BitVec 32 := Scalar.addi v2 c1_i32_724
  let c31_i32_725 : BitVec 32 := 31#32
  let v869 : BitVec 32 := Scalar.andi v868 c31_i32_725
  let c1_i32_727 : BitVec 32 := 1#32
  let v870 : BitVec 32 := Scalar.muli v869 c1_i32_727
  let v871 : BitVec 32 := Scalar.addi c0_i32_728 v870
  v871.toNat
def k0_dev64 (d0 : Dev nD) : Nat :=
  let c0_i32_735 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_731 : BitVec 32 := 2#32
  let v878 : BitVec 32 := Scalar.addi v2 c2_i32_731
  let c31_i32_732 : BitVec 32 := 31#32
  let v879 : BitVec 32 := Scalar.andi v878 c31_i32_732
  let c1_i32_734 : BitVec 32 := 1#32
  let v880 : BitVec 32 := Scalar.muli v879 c1_i32_734
  let v881 : BitVec 32 := Scalar.addi c0_i32_735 v880
  v881.toNat
def k0_dev65 (d0 : Dev nD) : Nat :=
  let c0_i32_742 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_738 : BitVec 32 := 3#32
  let v888 : BitVec 32 := Scalar.addi v2 c3_i32_738
  let c31_i32_739 : BitVec 32 := 31#32
  let v889 : BitVec 32 := Scalar.andi v888 c31_i32_739
  let c1_i32_741 : BitVec 32 := 1#32
  let v890 : BitVec 32 := Scalar.muli v889 c1_i32_741
  let v891 : BitVec 32 := Scalar.addi c0_i32_742 v890
  v891.toNat
def k0_dev66 (d0 : Dev nD) : Nat :=
  let c0_i32_749 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_745 : BitVec 32 := 4#32
  let v898 : BitVec 32 := Scalar.addi v2 c4_i32_745
  let c31_i32_746 : BitVec 32 := 31#32
  let v899 : BitVec 32 := Scalar.andi v898 c31_i32_746
  let c1_i32_748 : BitVec 32 := 1#32
  let v900 : BitVec 32 := Scalar.muli v899 c1_i32_748
  let v901 : BitVec 32 := Scalar.addi c0_i32_749 v900
  v901.toNat
def k0_dev67 (d0 : Dev nD) : Nat :=
  let c0_i32_756 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_752 : BitVec 32 := 5#32
  let v908 : BitVec 32 := Scalar.addi v2 c5_i32_752
  let c31_i32_753 : BitVec 32 := 31#32
  let v909 : BitVec 32 := Scalar.andi v908 c31_i32_753
  let c1_i32_755 : BitVec 32 := 1#32
  let v910 : BitVec 32 := Scalar.muli v909 c1_i32_755
  let v911 : BitVec 32 := Scalar.addi c0_i32_756 v910
  v911.toNat
def k0_dev68 (d0 : Dev nD) : Nat :=
  let c0_i32_763 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_759 : BitVec 32 := 6#32
  let v918 : BitVec 32 := Scalar.addi v2 c6_i32_759
  let c31_i32_760 : BitVec 32 := 31#32
  let v919 : BitVec 32 := Scalar.andi v918 c31_i32_760
  let c1_i32_762 : BitVec 32 := 1#32
  let v920 : BitVec 32 := Scalar.muli v919 c1_i32_762
  let v921 : BitVec 32 := Scalar.addi c0_i32_763 v920
  v921.toNat
def k0_dev69 (d0 : Dev nD) : Nat :=
  let c0_i32_770 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_766 : BitVec 32 := 7#32
  let v928 : BitVec 32 := Scalar.addi v2 c7_i32_766
  let c31_i32_767 : BitVec 32 := 31#32
  let v929 : BitVec 32 := Scalar.andi v928 c31_i32_767
  let c1_i32_769 : BitVec 32 := 1#32
  let v930 : BitVec 32 := Scalar.muli v929 c1_i32_769
  let v931 : BitVec 32 := Scalar.addi c0_i32_770 v930
  v931.toNat
def k0_dev70 (d0 : Dev nD) : Nat :=
  let c0_i32_777 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_773 : BitVec 32 := 8#32
  let v938 : BitVec 32 := Scalar.addi v2 c8_i32_773
  let c31_i32_774 : BitVec 32 := 31#32
  let v939 : BitVec 32 := Scalar.andi v938 c31_i32_774
  let c1_i32_776 : BitVec 32 := 1#32
  let v940 : BitVec 32 := Scalar.muli v939 c1_i32_776
  let v941 : BitVec 32 := Scalar.addi c0_i32_777 v940
  v941.toNat
def k0_dev71 (d0 : Dev nD) : Nat :=
  let c0_i32_784 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_780 : BitVec 32 := 9#32
  let v948 : BitVec 32 := Scalar.addi v2 c9_i32_780
  let c31_i32_781 : BitVec 32 := 31#32
  let v949 : BitVec 32 := Scalar.andi v948 c31_i32_781
  let c1_i32_783 : BitVec 32 := 1#32
  let v950 : BitVec 32 := Scalar.muli v949 c1_i32_783
  let v951 : BitVec 32 := Scalar.addi c0_i32_784 v950
  v951.toNat
def k0_dev72 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_787 : BitVec 32 := 10#32
  let v958 : BitVec 32 := Scalar.addi v2 c10_i32_787
  let c31_i32_788 : BitVec 32 := 31#32
  let v959 : BitVec 32 := Scalar.andi v958 c31_i32_788
  let c1_i32_790 : BitVec 32 := 1#32
  let v960 : BitVec 32 := Scalar.muli v959 c1_i32_790
  let v961 : BitVec 32 := Scalar.addi c0_i32_791 v960
  v961.toNat
def k0_dev73 (d0 : Dev nD) : Nat :=
  let c0_i32_798 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_794 : BitVec 32 := 11#32
  let v968 : BitVec 32 := Scalar.addi v2 c11_i32_794
  let c31_i32_795 : BitVec 32 := 31#32
  let v969 : BitVec 32 := Scalar.andi v968 c31_i32_795
  let c1_i32_797 : BitVec 32 := 1#32
  let v970 : BitVec 32 := Scalar.muli v969 c1_i32_797
  let v971 : BitVec 32 := Scalar.addi c0_i32_798 v970
  v971.toNat
def k0_dev74 (d0 : Dev nD) : Nat :=
  let c0_i32_805 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_801 : BitVec 32 := 12#32
  let v978 : BitVec 32 := Scalar.addi v2 c12_i32_801
  let c31_i32_802 : BitVec 32 := 31#32
  let v979 : BitVec 32 := Scalar.andi v978 c31_i32_802
  let c1_i32_804 : BitVec 32 := 1#32
  let v980 : BitVec 32 := Scalar.muli v979 c1_i32_804
  let v981 : BitVec 32 := Scalar.addi c0_i32_805 v980
  v981.toNat
def k0_dev75 (d0 : Dev nD) : Nat :=
  let c0_i32_812 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_808 : BitVec 32 := 13#32
  let v988 : BitVec 32 := Scalar.addi v2 c13_i32_808
  let c31_i32_809 : BitVec 32 := 31#32
  let v989 : BitVec 32 := Scalar.andi v988 c31_i32_809
  let c1_i32_811 : BitVec 32 := 1#32
  let v990 : BitVec 32 := Scalar.muli v989 c1_i32_811
  let v991 : BitVec 32 := Scalar.addi c0_i32_812 v990
  v991.toNat
def k0_dev76 (d0 : Dev nD) : Nat :=
  let c0_i32_819 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_815 : BitVec 32 := 14#32
  let v998 : BitVec 32 := Scalar.addi v2 c14_i32_815
  let c31_i32_816 : BitVec 32 := 31#32
  let v999 : BitVec 32 := Scalar.andi v998 c31_i32_816
  let c1_i32_818 : BitVec 32 := 1#32
  let v1000 : BitVec 32 := Scalar.muli v999 c1_i32_818
  let v1001 : BitVec 32 := Scalar.addi c0_i32_819 v1000
  v1001.toNat
def k0_dev77 (d0 : Dev nD) : Nat :=
  let c0_i32_826 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_822 : BitVec 32 := 15#32
  let v1008 : BitVec 32 := Scalar.addi v2 c15_i32_822
  let c31_i32_823 : BitVec 32 := 31#32
  let v1009 : BitVec 32 := Scalar.andi v1008 c31_i32_823
  let c1_i32_825 : BitVec 32 := 1#32
  let v1010 : BitVec 32 := Scalar.muli v1009 c1_i32_825
  let v1011 : BitVec 32 := Scalar.addi c0_i32_826 v1010
  v1011.toNat
def k0_dev78 (d0 : Dev nD) : Nat :=
  let c0_i32_833 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_829 : BitVec 32 := 16#32
  let v1018 : BitVec 32 := Scalar.addi v2 c16_i32_829
  let c31_i32_830 : BitVec 32 := 31#32
  let v1019 : BitVec 32 := Scalar.andi v1018 c31_i32_830
  let c1_i32_832 : BitVec 32 := 1#32
  let v1020 : BitVec 32 := Scalar.muli v1019 c1_i32_832
  let v1021 : BitVec 32 := Scalar.addi c0_i32_833 v1020
  v1021.toNat
def k0_dev79 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_836 : BitVec 32 := 17#32
  let v1028 : BitVec 32 := Scalar.addi v2 c17_i32_836
  let c31_i32_837 : BitVec 32 := 31#32
  let v1029 : BitVec 32 := Scalar.andi v1028 c31_i32_837
  let c1_i32_839 : BitVec 32 := 1#32
  let v1030 : BitVec 32 := Scalar.muli v1029 c1_i32_839
  let v1031 : BitVec 32 := Scalar.addi c0_i32_840 v1030
  v1031.toNat
def k0_dev80 (d0 : Dev nD) : Nat :=
  let c0_i32_847 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_843 : BitVec 32 := 18#32
  let v1038 : BitVec 32 := Scalar.addi v2 c18_i32_843
  let c31_i32_844 : BitVec 32 := 31#32
  let v1039 : BitVec 32 := Scalar.andi v1038 c31_i32_844
  let c1_i32_846 : BitVec 32 := 1#32
  let v1040 : BitVec 32 := Scalar.muli v1039 c1_i32_846
  let v1041 : BitVec 32 := Scalar.addi c0_i32_847 v1040
  v1041.toNat
def k0_dev81 (d0 : Dev nD) : Nat :=
  let c0_i32_854 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_850 : BitVec 32 := 19#32
  let v1048 : BitVec 32 := Scalar.addi v2 c19_i32_850
  let c31_i32_851 : BitVec 32 := 31#32
  let v1049 : BitVec 32 := Scalar.andi v1048 c31_i32_851
  let c1_i32_853 : BitVec 32 := 1#32
  let v1050 : BitVec 32 := Scalar.muli v1049 c1_i32_853
  let v1051 : BitVec 32 := Scalar.addi c0_i32_854 v1050
  v1051.toNat
def k0_dev82 (d0 : Dev nD) : Nat :=
  let c0_i32_861 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_857 : BitVec 32 := 20#32
  let v1058 : BitVec 32 := Scalar.addi v2 c20_i32_857
  let c31_i32_858 : BitVec 32 := 31#32
  let v1059 : BitVec 32 := Scalar.andi v1058 c31_i32_858
  let c1_i32_860 : BitVec 32 := 1#32
  let v1060 : BitVec 32 := Scalar.muli v1059 c1_i32_860
  let v1061 : BitVec 32 := Scalar.addi c0_i32_861 v1060
  v1061.toNat
def k0_dev83 (d0 : Dev nD) : Nat :=
  let c0_i32_868 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_864 : BitVec 32 := 21#32
  let v1068 : BitVec 32 := Scalar.addi v2 c21_i32_864
  let c31_i32_865 : BitVec 32 := 31#32
  let v1069 : BitVec 32 := Scalar.andi v1068 c31_i32_865
  let c1_i32_867 : BitVec 32 := 1#32
  let v1070 : BitVec 32 := Scalar.muli v1069 c1_i32_867
  let v1071 : BitVec 32 := Scalar.addi c0_i32_868 v1070
  v1071.toNat
def k0_dev84 (d0 : Dev nD) : Nat :=
  let c0_i32_875 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_871 : BitVec 32 := 22#32
  let v1078 : BitVec 32 := Scalar.addi v2 c22_i32_871
  let c31_i32_872 : BitVec 32 := 31#32
  let v1079 : BitVec 32 := Scalar.andi v1078 c31_i32_872
  let c1_i32_874 : BitVec 32 := 1#32
  let v1080 : BitVec 32 := Scalar.muli v1079 c1_i32_874
  let v1081 : BitVec 32 := Scalar.addi c0_i32_875 v1080
  v1081.toNat
def k0_dev85 (d0 : Dev nD) : Nat :=
  let c0_i32_882 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_878 : BitVec 32 := 23#32
  let v1088 : BitVec 32 := Scalar.addi v2 c23_i32_878
  let c31_i32_879 : BitVec 32 := 31#32
  let v1089 : BitVec 32 := Scalar.andi v1088 c31_i32_879
  let c1_i32_881 : BitVec 32 := 1#32
  let v1090 : BitVec 32 := Scalar.muli v1089 c1_i32_881
  let v1091 : BitVec 32 := Scalar.addi c0_i32_882 v1090
  v1091.toNat
def k0_dev86 (d0 : Dev nD) : Nat :=
  let c0_i32_889 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_885 : BitVec 32 := 24#32
  let v1098 : BitVec 32 := Scalar.addi v2 c24_i32_885
  let c31_i32_886 : BitVec 32 := 31#32
  let v1099 : BitVec 32 := Scalar.andi v1098 c31_i32_886
  let c1_i32_888 : BitVec 32 := 1#32
  let v1100 : BitVec 32 := Scalar.muli v1099 c1_i32_888
  let v1101 : BitVec 32 := Scalar.addi c0_i32_889 v1100
  v1101.toNat
def k0_dev87 (d0 : Dev nD) : Nat :=
  let c0_i32_896 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_892 : BitVec 32 := 25#32
  let v1108 : BitVec 32 := Scalar.addi v2 c25_i32_892
  let c31_i32_893 : BitVec 32 := 31#32
  let v1109 : BitVec 32 := Scalar.andi v1108 c31_i32_893
  let c1_i32_895 : BitVec 32 := 1#32
  let v1110 : BitVec 32 := Scalar.muli v1109 c1_i32_895
  let v1111 : BitVec 32 := Scalar.addi c0_i32_896 v1110
  v1111.toNat
def k0_dev88 (d0 : Dev nD) : Nat :=
  let c0_i32_903 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_899 : BitVec 32 := 26#32
  let v1118 : BitVec 32 := Scalar.addi v2 c26_i32_899
  let c31_i32_900 : BitVec 32 := 31#32
  let v1119 : BitVec 32 := Scalar.andi v1118 c31_i32_900
  let c1_i32_902 : BitVec 32 := 1#32
  let v1120 : BitVec 32 := Scalar.muli v1119 c1_i32_902
  let v1121 : BitVec 32 := Scalar.addi c0_i32_903 v1120
  v1121.toNat
def k0_dev89 (d0 : Dev nD) : Nat :=
  let c0_i32_910 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_906 : BitVec 32 := 27#32
  let v1128 : BitVec 32 := Scalar.addi v2 c27_i32_906
  let c31_i32_907 : BitVec 32 := 31#32
  let v1129 : BitVec 32 := Scalar.andi v1128 c31_i32_907
  let c1_i32_909 : BitVec 32 := 1#32
  let v1130 : BitVec 32 := Scalar.muli v1129 c1_i32_909
  let v1131 : BitVec 32 := Scalar.addi c0_i32_910 v1130
  v1131.toNat
def k0_dev90 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_913 : BitVec 32 := 28#32
  let v1138 : BitVec 32 := Scalar.addi v2 c28_i32_913
  let c31_i32_914 : BitVec 32 := 31#32
  let v1139 : BitVec 32 := Scalar.andi v1138 c31_i32_914
  let c1_i32_916 : BitVec 32 := 1#32
  let v1140 : BitVec 32 := Scalar.muli v1139 c1_i32_916
  let v1141 : BitVec 32 := Scalar.addi c0_i32_917 v1140
  v1141.toNat
def k0_dev91 (d0 : Dev nD) : Nat :=
  let c0_i32_924 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_920 : BitVec 32 := 29#32
  let v1148 : BitVec 32 := Scalar.addi v2 c29_i32_920
  let c31_i32_921 : BitVec 32 := 31#32
  let v1149 : BitVec 32 := Scalar.andi v1148 c31_i32_921
  let c1_i32_923 : BitVec 32 := 1#32
  let v1150 : BitVec 32 := Scalar.muli v1149 c1_i32_923
  let v1151 : BitVec 32 := Scalar.addi c0_i32_924 v1150
  v1151.toNat
def k0_dev92 (d0 : Dev nD) : Nat :=
  let c0_i32_931 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_927 : BitVec 32 := 30#32
  let v1158 : BitVec 32 := Scalar.addi v2 c30_i32_927
  let c31_i32_928 : BitVec 32 := 31#32
  let v1159 : BitVec 32 := Scalar.andi v1158 c31_i32_928
  let c1_i32_930 : BitVec 32 := 1#32
  let v1160 : BitVec 32 := Scalar.muli v1159 c1_i32_930
  let v1161 : BitVec 32 := Scalar.addi c0_i32_931 v1160
  v1161.toNat
def k0_dev93 (d0 : Dev nD) : Nat :=
  let c0_i32_938 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_934 : BitVec 32 := 31#32
  let v1168 : BitVec 32 := Scalar.addi v2 c31_i32_934
  let c31_i32_935 : BitVec 32 := 31#32
  let v1169 : BitVec 32 := Scalar.andi v1168 c31_i32_935
  let c1_i32_937 : BitVec 32 := 1#32
  let v1170 : BitVec 32 := Scalar.muli v1169 c1_i32_937
  let v1171 : BitVec 32 := Scalar.addi c0_i32_938 v1170
  v1171.toNat
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S256x128 : Shape := ⟨2, ![256, 128]⟩
abbrev S128x64 : Shape := ⟨2, ![128, 64]⟩
abbrev S256x2 : Shape := ⟨2, ![256, 2]⟩
abbrev S64x128x256 : Shape := ⟨3, ![64, 128, 256]⟩
abbrev S256x64 : Shape := ⟨2, ![256, 64]⟩
abbrev S_ : Shape := ⟨0, ![]⟩
abbrev S256 : Shape := ⟨1, ![256]⟩
abbrev S256x1 : Shape := ⟨2, ![256, 1]⟩
abbrev S256x128x256 : Shape := ⟨3, ![256, 128, 256]⟩
abbrev S256x256 : Shape := ⟨2, ![256, 256]⟩

abbrev nBuf : Space → Nat
  | .hbm => 90
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x64, .bf16⟩
  | .hbm, ⟨2, _⟩ => ⟨S256x2, .i32⟩
  | .hbm, ⟨3, _⟩ => ⟨S64x128x256, .bf16⟩
  | .hbm, ⟨4, _⟩ => ⟨S256x128, .f32⟩
  | .hbm, ⟨5, _⟩ => ⟨S128x64, .f32⟩
  | .hbm, ⟨6, _⟩ => ⟨S256x64, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S256x64, .f32⟩
  | .hbm, ⟨11, _⟩ => ⟨S256x64, .f32⟩
  | .hbm, ⟨12, _⟩ => ⟨S256x64, .f32⟩
  | .hbm, ⟨13, _⟩ => ⟨S_, .f32⟩
  | .hbm, ⟨14, _⟩ => ⟨S256, .f32⟩
  | .hbm, ⟨15, _⟩ => ⟨S256x1, .f32⟩
  | .hbm, ⟨16, _⟩ => ⟨S256x64, .f32⟩
  | .hbm, ⟨17, _⟩ => ⟨S256x64, .f32⟩
  | .hbm, ⟨18, _⟩ => ⟨S256x1, .i32⟩
  | .hbm, ⟨19, _⟩ => ⟨S256, .i32⟩
  | .hbm, ⟨20, _⟩ => ⟨S256x1, .i32⟩
  | .hbm, ⟨21, _⟩ => ⟨S256, .i32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i1⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S_, .i32⟩
  | .hbm, ⟨34, _⟩ => ⟨S256, .i32⟩
  | .hbm, ⟨35, _⟩ => ⟨S256, .i32⟩
  | .hbm, ⟨36, _⟩ => ⟨S256, .i32⟩
  | .hbm, ⟨37, _⟩ => ⟨S256x1, .i32⟩
  | .hbm, ⟨38, _⟩ => ⟨S256x1, .i32⟩
  | .hbm, ⟨39, _⟩ => ⟨S256x2, .i32⟩
  | .hbm, ⟨40, _⟩ => ⟨S256, .f32⟩
  | .hbm, ⟨41, _⟩ => ⟨S_, .i32⟩
  | .hbm, ⟨42, _⟩ => ⟨S256, .i32⟩
  | .hbm, ⟨43, _⟩ => ⟨S256, .i1⟩
  | .hbm, ⟨44, _⟩ => ⟨S_, .i32⟩
  | .hbm, ⟨45, _⟩ => ⟨S256, .i32⟩
  | .hbm, ⟨46, _⟩ => ⟨S256, .i32⟩
  | .hbm, ⟨47, _⟩ => ⟨S256, .i32⟩
  | .hbm, ⟨48, _⟩ => ⟨S_, .i32⟩
  | .hbm, ⟨49, _⟩ => ⟨S256, .i32⟩
  | .hbm, ⟨50, _⟩ => ⟨S256, .i1⟩
  | .hbm, ⟨51, _⟩ => ⟨S_, .i32⟩
  | .hbm, ⟨52, _⟩ => ⟨S256, .i32⟩
  | .hbm, ⟨53, _⟩ => ⟨S256, .i32⟩
  | .hbm, ⟨54, _⟩ => ⟨S256, .i32⟩
  | .hbm, ⟨55, _⟩ => ⟨S256x1, .i32⟩
  | .hbm, ⟨56, _⟩ => ⟨S256x1, .i32⟩
  | .hbm, ⟨57, _⟩ => ⟨S256x2, .i32⟩
  | .hbm, ⟨58, _⟩ => ⟨S256, .f32⟩
  | .hbm, ⟨59, _⟩ => ⟨S256, .f32⟩
  | .hbm, ⟨60, _⟩ => ⟨S64x128x256, .f32⟩
  | .hbm, ⟨61, _⟩ => ⟨S_, .i32⟩
  | .hbm, ⟨62, _⟩ => ⟨S256, .i32⟩
  | .hbm, ⟨63, _⟩ => ⟨S256, .i1⟩
  | .hbm, ⟨64, _⟩ => ⟨S_, .i32⟩
  | .hbm, ⟨65, _⟩ => ⟨S256, .i32⟩
  | .hbm, ⟨66, _⟩ => ⟨S256, .i32⟩
  | .hbm, ⟨67, _⟩ => ⟨S256, .i32⟩
  | .hbm, ⟨68, _⟩ => ⟨S256x1, .i32⟩
  | .hbm, ⟨69, _⟩ => ⟨S256x128x256, .f32⟩
  | .hbm, ⟨70, _⟩ => ⟨S256x256, .f32⟩
  | .hbm, ⟨71, _⟩ => ⟨S_, .i32⟩
  | .hbm, ⟨72, _⟩ => ⟨S256, .i32⟩
  | .hbm, ⟨73, _⟩ => ⟨S256, .i1⟩
  | .hbm, ⟨74, _⟩ => ⟨S_, .i32⟩
  | .hbm, ⟨75, _⟩ => ⟨S256, .i32⟩
  | .hbm, ⟨76, _⟩ => ⟨S256, .i32⟩
  | .hbm, ⟨77, _⟩ => ⟨S256, .i32⟩
  | .hbm, ⟨78, _⟩ => ⟨S256x1, .i32⟩
  | .hbm, ⟨79, _⟩ => ⟨S256x128x256, .f32⟩
  | .hbm, ⟨80, _⟩ => ⟨S256x256, .f32⟩
  | .hbm, ⟨81, _⟩ => ⟨S256, .f32⟩
  | .hbm, ⟨82, _⟩ => ⟨S256x1, .f32⟩
  | .hbm, ⟨83, _⟩ => ⟨S256x256, .f32⟩
  | .hbm, ⟨84, _⟩ => ⟨S256x256, .f32⟩
  | .hbm, ⟨85, _⟩ => ⟨S256, .f32⟩
  | .hbm, ⟨86, _⟩ => ⟨S256x1, .f32⟩
  | .hbm, ⟨87, _⟩ => ⟨S256x256, .f32⟩
  | .hbm, ⟨88, _⟩ => ⟨S256x256, .f32⟩
  | .hbm, ⟨89, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_c_2 : Ref sig .tc := ⟨.hbm, 30, rfl⟩
abbrev main_v22 : Ref sig .tc := ⟨.hbm, 31, rfl⟩
abbrev main_v23 : Ref sig .tc := ⟨.hbm, 32, rfl⟩
abbrev main_c_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_4 : Ref sig .tc := ⟨.hbm, 41, rfl⟩
abbrev main_v31 : Ref sig .tc := ⟨.hbm, 42, rfl⟩
abbrev main_v32 : Ref sig .tc := ⟨.hbm, 43, rfl⟩
abbrev main_c_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_c_6 : Ref sig .tc := ⟨.hbm, 48, rfl⟩
abbrev main_v36 : Ref sig .tc := ⟨.hbm, 49, rfl⟩
abbrev main_v37 : Ref sig .tc := ⟨.hbm, 50, rfl⟩
abbrev main_c_7 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_8 : Ref sig .tc := ⟨.hbm, 61, rfl⟩
abbrev main_v47 : Ref sig .tc := ⟨.hbm, 62, rfl⟩
abbrev main_v48 : Ref sig .tc := ⟨.hbm, 63, rfl⟩
abbrev main_c_9 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_10 : Ref sig .tc := ⟨.hbm, 71, rfl⟩
abbrev main_v55 : Ref sig .tc := ⟨.hbm, 72, rfl⟩
abbrev main_v56 : Ref sig .tc := ⟨.hbm, 73, rfl⟩
abbrev main_c_11 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩

abbrev nD : Nat := 1
abbrev τ : Topo := Topo.v7x

variable {F : FTy → Type} [FloatOps F]
-- ==== Proof.Mesh.lean ====
/-
The ring of thirty-two devices: who is whose `o`-th peer, the kernel's semaphore cells and the pieces its scratch
buffers are held in.

Device `c` meets its thirty-one peers in the order `c + 1, c + 2, …` (modulo 32). It signals each peer's entry
barrier, then sends in two exchanges (`false`: the blocks of its partial result, `true`: its reduced rows). Exchange
`b` has, on every device, one send semaphore per peer in that order and one receive semaphore per SENDING device.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.ShloMosaic.TcCoe Idealize.SL.Sem

/-! ## Peers -/

theorem dev_lt (s : Dev nD) : s.val < 32 := s.isLt

set_option backward.proofsInPublic true in
/-- The `o`-th peer of device `c`, counted from 0: device `c + o + 1` around the ring. -/
def peer (c : Dev nD) (o : Fin 31) : Dev nD := ⟨(c.val + o.val + 1) % 32, Nat.mod_lt _ (by decide)⟩

theorem peer_ne (c : Dev nD) (o : Fin 31) : peer c o ≠ c := by
  intro h
  have := congrArg Fin.val h
  simp only [peer] at this
  have := c.isLt; have := o.isLt
  omega

theorem peer_injective (c : Dev nD) : Function.Injective (peer c) := by
  intro o o' h
  have := congrArg Fin.val h
  simp only [peer] at this
  have := c.isLt; have := o.isLt; have := o'.isLt
  exact Fin.ext (by omega)

/-- The peers of `c` are every device but `c`. -/
theorem others_eq (c : Dev nD) : Finset.univ.erase c = Finset.univ.map ⟨peer c, peer_injective c⟩ := by
  refine (Finset.eq_of_subset_of_card_le (fun p hp => ?_) ?_).symm
  · obtain ⟨o, -, rfl⟩ := Finset.mem_map.mp hp
    exact Finset.mem_erase.mpr ⟨peer_ne c o, Finset.mem_univ _⟩
  · rw [Finset.card_erase_of_mem (Finset.mem_univ c), Finset.card_map, Finset.card_univ, Finset.card_univ,
      Fintype.card_fin, Fintype.card_fin]
    decide

/-- The exchange steps not yet taken after `k` of them, and those taken. -/
def todo (k : ℕ) : Finset (Fin 31) := Finset.univ.filter fun o => k ≤ o.val
def taken (k : ℕ) : Finset (Fin 31) := Finset.univ.filter fun o => o.val < k

theorem todo_zero : todo 0 = Finset.univ := Finset.filter_true_of_mem fun o _ => Nat.zero_le _
theorem todo_last : todo 31 = ∅ := Finset.filter_false_of_mem fun o _ => by have := o.isLt; omega
theorem taken_zero : taken 0 = ∅ := Finset.filter_false_of_mem fun o _ => by omega
theorem taken_last : taken 31 = Finset.univ := Finset.filter_true_of_mem fun o _ => o.isLt

theorem todo_step {k : ℕ} (hk : k < 31) : todo k = insert ⟨k, hk⟩ (todo (k + 1)) := by
  ext o
  simp only [todo, Finset.mem_filter, Finset.mem_univ, true_and, Finset.mem_insert, Fin.ext_iff]
  omega
theorem not_mem_todo {k : ℕ} (hk : k < 31) : (⟨k, hk⟩ : Fin 31) ∉ todo (k + 1) := by
  simp only [todo, Finset.mem_filter, Finset.mem_univ, true_and]; omega
theorem taken_step {k : ℕ} (hk : k < 31) : taken (k + 1) = insert ⟨k, hk⟩ (taken k) := by
  ext o
  simp only [taken, Finset.mem_filter, Finset.mem_univ, true_and, Finset.mem_insert, Fin.ext_iff]
  omega
theorem not_mem_taken {k : ℕ} (hk : k < 31) : (⟨k, hk⟩ : Fin 31) ∉ taken k := by
  simp only [taken, Finset.mem_filter, Finset.mem_univ, true_and]; omega

/-! ## Cells -/

/-- The entry barrier's semaphore. -/
abbrev barS : Sem sig := (SemArray.scalar (sig.barrier 0 rfl) : Sems sig S_).sem

/-- The kernel's own semaphores on a device: per exchange, the send semaphores and the receive semaphores. -/
abbrev Own : Type := Bool × (Fin 31 ⊕ Dev nD)
/-- All of a device's: the barrier's too. -/
abbrev Cel : Type := Unit ⊕ Own

/-- Their numbers among the device's transfer semaphores. -/
def num : Own → ℕ
  | (false, .inl o) => 5 + o.val
  | (false, .inr s) => 36 + s.val
  | (true, .inl o) => 68 + o.val
  | (true, .inr s) => 99 + s.val

theorem num_lt (k : Own) : num k < 131 := by
  rcases k with ⟨_ | _, o | s⟩ <;> simp only [num]
  · omega
  · have := dev_lt s; omega
  · omega
  · have := dev_lt s; omega

theorem num_ge (k : Own) : 5 ≤ num k := by
  rcases k with ⟨_ | _, o | s⟩ <;> simp only [num] <;> omega

theorem num_injective : Function.Injective num := by
  have hd := dev_lt
  rintro ⟨_ | _, o | s⟩ ⟨_ | _, o' | s'⟩ h <;> simp only [num] at h
  all_goals first
    | (obtain rfl : o = o' := Fin.ext (by omega); rfl)
    | (obtain rfl : s = s' := Fin.ext (by omega); rfl)
    | (exfalso; have := hd s; omega)
    | (exfalso; have := hd s'; omega)
    | (exfalso; omega)

set_option backward.proofsInPublic true in
def dmaS (k : Own) : DmaSem sig := ⟨num k, num_lt k⟩
theorem dmaS_injective : Function.Injective dmaS := fun _ _ h => num_injective (congrArg Fin.val h)

abbrev sendS (b : Bool) (o : Fin 31) : DmaSem sig := dmaS (b, .inl o)
abbrev recvS (b : Bool) (s : Dev nD) : DmaSem sig := dmaS (b, .inr s)

def osem (k : Own) : SemLoc sig := .dma (dmaS k)
def csem : Cel → SemLoc sig
  | .inl _ => .reg barS
  | .inr k => .dma (dmaS k)

theorem csem_injective : Function.Injective csem := by
  rintro (⟨⟩ | k) (⟨⟩ | k') h
  · rfl
  · cases h
  · cases h
  · simp only [csem, SemLoc.dma.injEq] at h
    rw [dmaS_injective h]

abbrev kcell (x : Dev nD × Cel) : GSem nD τ sig := ((x.1 : Thread nD τ), csem x.2)

theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

abbrev barC (c : Dev nD) : GSem nD τ sig := ((c : Thread nD τ), .reg barS)
abbrev sendC (b : Bool) (c : Dev nD) (o : Fin 31) : GSem nD τ sig := ((c : Thread nD τ), .dma (sendS b o))
abbrev recvC (b : Bool) (c s : Dev nD) : GSem nD τ sig := ((c : Thread nD τ), .dma (recvS b s))

/-- The credit of one transfer: the bytes of eight rows. -/
def N : ℕ := (Memref.whole cc0_scratch1 : Memref sig .tc .vmem S8x256 .bf16).view.dmaCredit
theorem N_pos : 0 < N := View.dmaCredit_pos _ (by decide)

/-! ## Pieces of the scratch buffers -/

/-- Rows `8 p … 8 p + 7` of a 256-row buffer. -/
def blk (p : Dev nD) : Finset S256x256.Idx := Finset.univ.filter fun i => (i 0).val / 8 = p.val
/-- Slot `s` of a receive buffer. -/
def slot (s : Dev nD) : Finset S32x8x256.Idx := Finset.univ.filter fun i => (i 0).val = s.val

theorem blk_disjoint (p p' : Dev nD) (h : p ≠ p') : Disjoint (blk p) (blk p') :=
  Finset.disjoint_left.mpr fun i hi hi' => h (Fin.ext ((Finset.mem_filter.mp hi).2.symm.trans (Finset.mem_filter.mp hi').2))
theorem slot_disjoint (p p' : Dev nD) (h : p ≠ p') : Disjoint (slot p) (slot p') :=
  Finset.disjoint_left.mpr fun i hi hi' => h (Fin.ext ((Finset.mem_filter.mp hi).2.symm.trans (Finset.mem_filter.mp hi').2))

theorem blk_cover : Finset.univ.biUnion blk = Finset.univ := by
  ext i
  simp only [Finset.mem_biUnion, Finset.mem_univ, true_and, iff_true, blk, Finset.mem_filter]
  have h : (i 0).val < 256 := (i 0).isLt
  exact ⟨⟨(i 0).val / 8, show _ < 32 by omega⟩, rfl⟩
theorem slot_cover : Finset.univ.biUnion slot = Finset.univ := by
  ext i
  simp only [Finset.mem_biUnion, Finset.mem_univ, true_and, iff_true, slot, Finset.mem_filter]
  exact ⟨⟨(i 0).val, (i 0).isLt⟩, rfl⟩

/-! ## The memrefs the transfers name -/

/-- Eight rows of the partial-result buffer from offset `off`. -/
abbrev pSlice {off : Fin 2 → ℕ} (inb : ∀ a, off a + S8x256.size a ≤ S256x256.size a) : Memref sig .tc .vmem S8x256 .bf16 :=
  (Memref.whole cc0_scratch0).slice (Rect.unit (s := S256x256) off S8x256.size inb) (fun _ => rfl)
/-- One slot, as eight rows, of the first exchange's receive buffer, -/
abbrev rSlice0 {off : Fin 3 → ℕ} (inb : ∀ a, off a + S1x8x256.size a ≤ S32x8x256.size a) : Memref sig .tc .vmem S8x256 .bf16 :=
  ((Memref.whole cc0_scratch2).slice (Rect.unit (s := S32x8x256) off S1x8x256.size inb) (fun _ => rfl)).squeeze S8x256 squeezes_S1x8x256_S8x256
/-- of the second's. -/
abbrev rSlice1 {off : Fin 3 → ℕ} (inb : ∀ a, off a + S1x8x256.size a ≤ S32x8x256.size a) : Memref sig .tc .vmem S8x256 .bf16 :=
  ((Memref.whole cc0_scratch3).slice (Rect.unit (s := S32x8x256) off S1x8x256.size inb) (fun _ => rfl)).squeeze S8x256 squeezes_S1x8x256_S8x256

theorem mem_blk {p : Dev nD} {i : S256x256.Idx} : i ∈ blk p ↔ (i 0).val / 8 = p.val := by simp [blk]
theorem mem_slot {s : Dev nD} {i : S32x8x256.Idx} : i ∈ slot s ↔ (i 0).val = s.val := by simp [slot]

theorem rect_blk {off : Fin 2 → ℕ} (inb : ∀ a, off a + S8x256.size a ≤ S256x256.size a) (p : Dev nD) (h : off = ![8 * p.val, 0]) :
    (Rect.unit (s := S256x256) off S8x256.size inb).set = blk p := by
  subst h
  ext i
  rw [Rect.mem_set_unit, mem_blk, Fin.forall_fin_two]
  have h1 : (i 1).val < 256 := (i 1).isLt
  simp
  omega

theorem rect_slot {off : Fin 3 → ℕ} (inb : ∀ a, off a + S1x8x256.size a ≤ S32x8x256.size a) (s : Dev nD) (h : off = ![s.val, 0, 0]) :
    (Rect.unit (s := S32x8x256) off S1x8x256.size inb).set = slot s := by
  subst h
  ext i
  rw [Rect.mem_set_unit, mem_slot, Fin.forall_fin_succ, Fin.forall_fin_two]
  have h1 : (i 1).val < 8 := (i 1).isLt
  have h2 : (i 2).val < 256 := (i 2).isLt
  simp
  omega

theorem set_pSlice {off : Fin 2 → ℕ} (inb : ∀ a, off a + S8x256.size a ≤ S256x256.size a) (p : Dev nD) (h : off = ![8 * p.val, 0]) :
    (pSlice inb).view.set = blk p :=
  (View.set_slice_whole _ _).trans (rect_blk inb p h)
theorem set_rSlice0 {off : Fin 3 → ℕ} (inb : ∀ a, off a + S1x8x256.size a ≤ S32x8x256.size a) (s : Dev nD) (h : off = ![s.val, 0, 0]) :
    (rSlice0 inb).view.set = slot s :=
  (View.set_reshape _ _).trans ((View.set_slice_whole _ _).trans (rect_slot inb s h))
theorem set_rSlice1 {off : Fin 3 → ℕ} (inb : ∀ a, off a + S1x8x256.size a ≤ S32x8x256.size a) (s : Dev nD) (h : off = ![s.val, 0, 0]) :
    (rSlice1 inb).view.set = slot s :=
  (View.set_reshape _ _).trans ((View.set_slice_whole _ _).trans (rect_slot inb s h))

/-- Row `j` of slot `s`, -/
def slotAt (s : Dev nD) (j : S8x256.Idx) : S32x8x256.Idx := Fin.cons (α := fun a => Fin (S32x8x256.size a)) s j
/-- the row a position of a slot is in, -/
def rowOf (i : S32x8x256.Idx) : S8x256.Idx := fun a => i a.succ
/-- row `j` of block `p`. -/
def rowAt (p : Dev nD) (j : S8x256.Idx) : S256x256.Idx :=
  Shape.pair (d := ![256, 256]) ⟨8 * p.val + (j 0).val, by
    have h : (j 0).val < 8 := (j 0).isLt
    have := dev_lt p
    show _ < 256
    omega⟩ (j 1)

theorem slotAt_rowOf {s : Dev nD} {i : S32x8x256.Idx} (h : i ∈ slot s) : slotAt s (rowOf i) = i := by
  have h0 : i 0 = s := Fin.ext (mem_slot.mp h)
  funext a
  refine Fin.cases ?_ (fun _ => rfl) a
  exact h0.symm

theorem rowOf_slotAt (s : Dev nD) (j : S8x256.Idx) : rowOf (slotAt s j) = j := rfl

theorem emb_slot {off : Fin 3 → ℕ} (inb : ∀ a, off a + S1x8x256.size a ≤ S32x8x256.size a) (s : Dev nD) (h : off = ![s.val, 0, 0])
    (hn : S8x256.numel = (Rect.unit (s := S32x8x256) off S1x8x256.size inb).shape.numel) (j : S8x256.Idx) :
    (Rect.unit (s := S32x8x256) off S1x8x256.size inb).emb (Shape.reshapeEquiv hn j) = slotAt s j := by
  subst h
  have e : Shape.reshapeEquiv hn j = Fin.cons (α := fun a => Fin (S1x8x256.size a)) ⟨0, Nat.one_pos⟩ j :=
    Shape.reshapeEquiv_cons_one (d := ![8, 256]) hn j
  funext a
  refine Fin.ext ?_
  rw [Rect.emb_apply, e]
  refine Fin.cases ?_ (fun a => ?_) a
  · show s.val + 1 * 0 = s.val
    omega
  · refine Fin.cases ?_ (fun a => ?_) a
    · show 0 + 1 * (j 0).val = (j 0).val
      omega
    · obtain rfl : a = 0 := Subsingleton.elim _ _
      show 0 + 1 * (j 1).val = (j 1).val
      omega

theorem emb_blk {off : Fin 2 → ℕ} (inb : ∀ a, off a + S8x256.size a ≤ S256x256.size a) (p : Dev nD) (h : off = ![8 * p.val, 0])
    (j : S8x256.Idx) : (Rect.unit (s := S256x256) off S8x256.size inb).emb j = rowAt p j := by
  subst h
  funext a
  refine Fin.ext ?_
  rw [Rect.emb_apply]
  refine Fin.cases ?_ (fun a => ?_) a
  · show 8 * p.val + 1 * (j 0).val = 8 * p.val + (j 0).val
    omega
  · obtain rfl : a = 0 := Subsingleton.elim _ _
    show 0 + 1 * (j 1).val = (j 1).val
    omega

section
variable {F : FTy → Type}

/-- The rows a block's slice reads, -/
theorem read_pSlice {off : Fin 2 → ℕ} (inb : ∀ a, off a + S8x256.size a ≤ S256x256.size a) (p : Dev nD) (h : off = ![8 * p.val, 0])
    (f : S256x256.Idx → Elt F .bf16) (j : S8x256.Idx) : (pSlice inb).view.read (Elt F) f j = f (rowAt p j) :=
  congrArg f (emb_blk inb p h j)

/-- and what a slot holds once eight rows have been written to it. -/
theorem write_rSlice0 {off : Fin 3 → ℕ} (inb : ∀ a, off a + S1x8x256.size a ≤ S32x8x256.size a) (s : Dev nD) (h : off = ![s.val, 0, 0])
    (f : S32x8x256.Idx → Elt F .bf16) (w : S8x256.Idx → Elt F .bf16) {i : S32x8x256.Idx} (hi : i ∈ slot s) :
    (rSlice0 inb).view.write (Elt F) f w Finset.univ i = w (rowOf i) := by
  have e : (rSlice0 inb).view.emb (rowOf i) = i := (emb_slot inb s h _ (rowOf i)).trans (slotAt_rowOf hi)
  have := View.write_emb_of_mem (v := (rSlice0 inb).view) (Val := Elt F) f w (Finset.mem_univ (rowOf i))
  rw [e] at this
  exact this
theorem write_rSlice1 {off : Fin 3 → ℕ} (inb : ∀ a, off a + S1x8x256.size a ≤ S32x8x256.size a) (s : Dev nD) (h : off = ![s.val, 0, 0])
    (f : S32x8x256.Idx → Elt F .bf16) (w : S8x256.Idx → Elt F .bf16) {i : S32x8x256.Idx} (hi : i ∈ slot s) :
    (rSlice1 inb).view.write (Elt F) f w Finset.univ i = w (rowOf i) := by
  have e : (rSlice1 inb).view.emb (rowOf i) = i := (emb_slot inb s h _ (rowOf i)).trans (slotAt_rowOf hi)
  have := View.write_emb_of_mem (v := (rSlice1 inb).view) (Val := Elt F) f w (Finset.mem_univ (rowOf i))
  rw [e] at this
  exact this

end

end Cert.KProof

end
-- ==== Proof.Values.lean ====
/-
What every buffer of the kernel holds, as a function of the arguments, on every device.

A device's partial result `accV` goes out in blocks of eight rows; the slots it receives, one per device, are `recv1V`; their
sum `rbufV` is the device's share of the reduced rows; and the slots it then receives, `recv2V`, are every device's share, which the
result `outV` lays out as 256 rows.
-/
module

public import proofs.«01_k».proof.Proof.Mesh

@[expose] public section

noncomputable section

namespace Cert.KProof

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The four operands as the pipeline stages them on device `c`. -/
def xC (c : Dev nD) : S256x128.Idx → Elt F .bf16 :=
  (win0_0.blk (0 : Fin 1)).view.read (Elt F) (m ((c : Thread nD τ).loc main_arg0))
def rwC (c : Dev nD) : S128x64.Idx → Elt F .bf16 :=
  (win0_1.blk (0 : Fin 1)).view.read (Elt F) (m ((c : Thread nD τ).loc main_arg1))
def ixC (c : Dev nD) : S256x2.Idx → Elt F .i32 :=
  (win0_2.blk (0 : Fin 1)).view.read (Elt F) (m ((c : Thread nD τ).loc main_arg2))
def ewC (c : Dev nD) : S2x128x256.Idx → Elt F .bf16 :=
  (win0_3.blk (0 : Fin 1)).view.read (Elt F) (m ((c : Thread nD τ).loc main_arg3))

/-- The two columns of the index operand, -/
def col0 (f : S256x2.Idx → Elt F .i32) : Vec F S256x1 .i32 :=
  (Memref.whole cc0_stg2_0 : Memref sig .tc .vmem S256x2 .i32).view.readAt (Elt F)
    (Rect.unit (s := S256x2) ![0, 0] S256x1.size inb_S256x2_S256x1_0_0).toLoadRect f
def col1 (f : S256x2.Idx → Elt F .i32) : Vec F S256x1 .i32 :=
  (Memref.whole cc0_stg2_0 : Memref sig .tc .vmem S256x2 .i32).view.readAt (Elt F)
    (Rect.unit (s := S256x2) ![0, 1] S256x1.size inb_S256x2_S256x1_0_1).toLoadRect f
/-- and the two experts of the weight operand. -/
def exp0 (f : S2x128x256.Idx → Elt F .bf16) : Vec F S1x128x256 .bf16 :=
  (Memref.whole cc0_stg3_0 : Memref sig .tc .vmem S2x128x256 .bf16).view.readAt (Elt F)
    (Rect.unit (s := S2x128x256) ![0, 0, 0] S1x128x256.size inb_S2x128x256_S1x128x256_0_0_0).toLoadRect f
def exp1 (f : S2x128x256.Idx → Elt F .bf16) : Vec F S1x128x256 .bf16 :=
  (Memref.whole cc0_stg3_0 : Memref sig .tc .vmem S2x128x256 .bf16).view.readAt (Elt F)
    (Rect.unit (s := S2x128x256) ![1, 0, 0] S1x128x256.size inb_S2x128x256_S1x128x256_1_0_0).toLoadRect f

/-- The device's own number, as the program computes it. -/
def devW (c : Dev nD) : BitVec 32 := Scalar.remsi (Scalar.divsi (Dev.word c) 1#32) 32#32

/-- The partial result of device `c`: its two experts' share of every row. -/
def accV (c : Dev nD) : S256x256.Idx → Elt F .bf16 :=
  k0_pay8 (k0_pay7 (devW c) (k0_pay1 (xC m c)) (k0_pay3 (col0 (ixC m c))) (k0_pay4 (col1 (ixC m c)))
    (k0_pay5 (xC m c) (rwC m c) (col0 (ixC m c))) (k0_pay6 (xC m c) (rwC m c) (col1 (ixC m c)))
    (exp0 (ewC m c)) (exp1 (ewC m c)))

/-- The first exchange's receive buffer on device `c`: in slot `s`, block `c` of `s`'s partial result; -/
def recv1V (c : Dev nD) : S32x8x256.Idx → Elt F .bf16 := fun i => accV m (i 0) (rowAt c (rowOf i))
/-- device `c`'s share of the reduced rows; -/
def rbufV (c : Dev nD) : S8x256.Idx → Elt F .bf16 := k0_pay10 (recv1V m c)
/-- the second exchange's receive buffer: every device's share (the same on every device); -/
def recv2V (_ : Dev nD) : S32x8x256.Idx → Elt F .bf16 := fun i => rbufV m (i 0) (rowOf i)
/-- the result. -/
def outV (c : Dev nD) : S256x256.Idx → Elt F .f32 := k0_pay12 (recv2V m c)

end Cert.KProof

end
-- ==== Proof.Sched.lean ====
/-
The protocol: which duty every semaphore cell has, what it hands over, and what each device owes at launch.

Every cell has one round. A device's barrier cell has a duty of every other device, which hands over that device's two slots
the barrier's owner will write; a receive cell has the duty of its sending device, which hands over the written slot; a send
cell's duty is its own device's and gives the sent rows back. A receive cell whose sender is the device itself is never used
and has no duty.
-/
module

public import proofs.«01_k».proof.Proof.Values
public import Idealize.ShloMosaic.Lib.ShareLeaves

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What is held of a scratch buffer -/

/-- Block `p` of device `c`'s partial result, -/
def pbPts (c p : Dev nD) (f : S256x256.Idx → Elt F .bf16) : sProp 𝕄 := ((c : Thread nD τ).loc cc0_scratch0) ↦[blk p]{fullShare} f
/-- a share of its reduced rows, -/
def rbPts (c : Dev nD) (q : PosShare TreeShare) (f : S8x256.Idx → Elt F .bf16) : sProp 𝕄 := ((c : Thread nD τ).loc cc0_scratch1) ↦{q} f
/-- slot `s` of its receive buffer for each exchange. -/
def slPts (b : Bool) (c s : Dev nD) (f : S32x8x256.Idx → Elt F .bf16) : sProp 𝕄 :=
  match b with
  | false => ((c : Thread nD τ).loc cc0_scratch2) ↦[slot s]{fullShare} f
  | true => ((c : Thread nD τ).loc cc0_scratch3) ↦[slot s]{fullShare} f

/-- What a receive buffer ends up holding. -/
def recvV (b : Bool) (c : Dev nD) : S32x8x256.Idx → Elt F .bf16 := match b with | false => recv1V m c | true => recv2V m c

/-- The reduced rows are read by thirty-one transfers at once, and by the device itself: thirty-two shares. -/
def sh (o : Fin 31) : PosShare TreeShare := ShareLeaves.leaf 5 fullShare (o.castSucc : Fin 32)
def shOwn : PosShare TreeShare := ShareLeaves.leaf 5 fullShare (Fin.last 31 : Fin 32)

/-! ## The schedule -/

/-- The slots device `p` hands device `c` at the barrier: the ones `c` will write. -/
def barPay (c p : Dev nD) : sProp 𝕄 := iprop((∃ f, slPts false p c f) ∗ ∃ f, slPts true p c f)
def sendPay (b : Bool) (c : Dev nD) (o : Fin 31) : sProp 𝕄 :=
  match b with
  | false => pbPts c (peer c o) (accV m c)
  | true => rbPts c (sh o) (rbufV m c)

def pay (x : Dev nD × Cel) (d : Dev nD) : sProp 𝕄 :=
  match x with
  | (c, .inl _) => barPay c d
  | (c, .inr (b, .inl o)) => sendPay m b c o
  | (c, .inr (b, .inr s)) => slPts b c s (recvV m b c)

def duty : Dev nD × Cel → Finset (Dev nD)
  | (c, .inl _) => Finset.univ.erase c
  | (c, .inr (_, .inl _)) => {c}
  | (c, .inr (_, .inr s)) => if s = c then ∅ else {s}

def amt : Dev nD × Cel → ℕ
  | (_, .inl _) => 1
  | (_, .inr _) => N

/-- Which of the kernel's cells a semaphore is, if any. -/
def which (g : GSem nD τ sig) : Option (Dev nD × Cel) := Function.partialInv kcell g
theorem which_kcell (x : Dev nD × Cel) : which (kcell x) = some x := Function.partialInv_left kcell_injective x

def Rd : Rounds.Schedule (GSem nD τ sig) (Dev nD) 𝕄 where
  duties g r := if r = 0 then (which g).elim ∅ duty else ∅
  unitless _ := False
  amount g _ _ := (which g).elim 1 amt
  payload g _ d := (which g).elim iprop(emp) fun x => pay m x d
  amount_pos g _ _ _ := by
    rcases which g with _ | ⟨c, _ | _⟩
    · exact Nat.one_pos
    · exact Nat.one_pos
    · exact N_pos

instance slPts_storable (b : Bool) (c s : Dev nD) (f) : BI.Storable (upEmb : UEmb _ 𝕄) (slPts (F := F) b c s f) := by
  cases b <;> (unfold slPts; infer_instance)
instance barPay_storable (c p : Dev nD) : BI.Storable (upEmb : UEmb _ 𝕄) (barPay (F := F) c p) := by unfold barPay; infer_instance
instance sendPay_storable (b : Bool) (c : Dev nD) (o : Fin 31) : BI.Storable (upEmb : UEmb _ 𝕄) (sendPay (F := F) m b c o) := by
  cases b
  · unfold sendPay pbPts; infer_instance
  · unfold sendPay rbPts; infer_instance
instance Rd_payload_storable (g : GSem nD τ sig) (r : ℕ) (d : Dev nD) : BI.Storable (upEmb : UEmb _ 𝕄) ((Rd (F := F) m).payload g r d) := by
  dsimp only [Rd]
  rcases which g with _ | ⟨c, _ | ⟨b, _ | _⟩⟩
  · show BI.Storable _ (iprop(emp) : sProp 𝕄); infer_instance
  · show BI.Storable _ (barPay c d : sProp 𝕄); infer_instance
  · show BI.Storable _ (sendPay m b c _ : sProp 𝕄); infer_instance
  · show BI.Storable _ (slPts b c _ (recvV m b c) : sProp 𝕄); infer_instance

theorem duties_at (x : Dev nD × Cel) : (Rd m).duties (kcell x) 0 = duty x := by
  dsimp only [Rd]; rw [if_pos rfl, which_kcell]; rfl
theorem amount_at (x : Dev nD × Cel) (d : Dev nD) : (Rd m).amount (kcell x) 0 d = amt x := by
  dsimp only [Rd]; rw [which_kcell]; rfl
theorem payload_at (x : Dev nD × Cel) (d : Dev nD) : (Rd m).payload (kcell x) 0 d = pay m x d := by
  dsimp only [Rd]; rw [which_kcell]; rfl
theorem duties_later (g : GSem nD τ sig) : ∀ r, 1 ≤ r → (Rd m).duties g r = ∅ := fun r hr => by
  dsimp only [Rd]; exact if_neg (by omega)

theorem duties_bar (c : Dev nD) : (Rd m).duties (barC c) 0 = Finset.univ.erase c := duties_at m (c, .inl ())
theorem duties_send (b : Bool) (c : Dev nD) (o : Fin 31) : (Rd m).duties (sendC b c o) 0 = {c} := duties_at m (c, .inr (b, .inl o))
theorem duties_recv (b : Bool) (c s : Dev nD) (h : s ≠ c) : (Rd m).duties (recvC b c s) 0 = {s} :=
  (duties_at m (c, .inr (b, .inr s))).trans (if_neg h)
theorem amount_bar (c d : Dev nD) : (Rd m).amount (barC c) 0 d = 1 := amount_at m (c, .inl ()) d
theorem amount_send (b : Bool) (c : Dev nD) (o : Fin 31) (d : Dev nD) : (Rd m).amount (sendC b c o) 0 d = N :=
  amount_at m (c, .inr (b, .inl o)) d
theorem amount_recv (b : Bool) (c s d : Dev nD) : (Rd m).amount (recvC b c s) 0 d = N := amount_at m (c, .inr (b, .inr s)) d
theorem payload_bar (c d : Dev nD) : (Rd m).payload (barC c) 0 d = barPay c d := payload_at m (c, .inl ()) d
theorem payload_send (b : Bool) (c : Dev nD) (o : Fin 31) (d : Dev nD) : (Rd m).payload (sendC b c o) 0 d = sendPay m b c o :=
  payload_at m (c, .inr (b, .inl o)) d
theorem payload_recv (b : Bool) (c s d : Dev nD) : (Rd m).payload (recvC b c s) 0 d = slPts b c s (recvV m b c) :=
  payload_at m (c, .inr (b, .inr s)) d

/-- A device's receive cell for itself has no duty at all. -/
theorem duties_self (b : Bool) (c : Dev nD) : ∀ r, 0 ≤ r → (Rd m).duties (recvC b c c) r = ∅ := fun r _ => by
  by_cases h : r = 0
  · subst h; exact (duties_at m (c, .inr (b, .inr c))).trans (if_pos rfl)
  · exact duties_later m _ r (by omega)

theorem expect_bar (c : Dev nD) : (Rd m).expect (barC c) 0 = 31 := by
  unfold Schedule.expect Schedule.amountOf
  rw [duties_bar, Finset.sum_congr rfl fun d _ => amount_bar m c d, Finset.sum_const,
    Finset.card_erase_of_mem (Finset.mem_univ c), Finset.card_univ, Fintype.card_fin]
  rfl
theorem expect_send (b : Bool) (c : Dev nD) (o : Fin 31) : (Rd m).expect (sendC b c o) 0 = N := by
  unfold Schedule.expect Schedule.amountOf
  rw [duties_send, Finset.sum_singleton, amount_send]
theorem expect_recv (b : Bool) (c s : Dev nD) (h : s ≠ c) : (Rd m).expect (recvC b c s) 0 = N := by
  unfold Schedule.expect Schedule.amountOf
  rw [duties_recv m b c s h, Finset.sum_singleton, amount_recv]

/-- What the barrier wait hands over: of every peer, the two slots to be written there. -/
theorem rest_bar (c : Dev nD) :
    bigSep ((Rd m).duties (barC c) 0 \ ∅) (fun d => (Rd m).payload (barC c) 0 d) = bigSep Finset.univ fun o => barPay c (peer c o) := by
  rw [Finset.sdiff_empty, duties_bar, others_eq, bigSep_map]
  exact bigSep_congr fun o _ => payload_bar m _ _
theorem rest_send (b : Bool) (c : Dev nD) (o : Fin 31) :
    bigSep ((Rd m).duties (sendC b c o) 0 \ ∅) (fun d => (Rd m).payload (sendC b c o) 0 d) = sendPay m b c o := by
  rw [Finset.sdiff_empty, duties_send, bigSep_singleton, payload_send]
theorem rest_recv (b : Bool) (c s : Dev nD) (h : s ≠ c) :
    bigSep ((Rd m).duties (recvC b c s) 0 \ ∅) (fun d => (Rd m).payload (recvC b c s) 0 d) = slPts b c s (recvV m b c) := by
  rw [Finset.sdiff_empty, duties_recv m b c s h, bigSep_singleton, payload_recv]

/-! ## What each device owes at launch; the order of waits -/

abbrev Tal : Type := CellTallies nD τ sig Unit

/-- The barrier units device `c` still owes after `k` signals, -/
def OB (c : Dev nD) (k : ℕ) : Tal := ∑ o ∈ todo k, tallyAt (barC (peer c o)) () 1
/-- and the transfers of an exchange after `k` sends. -/
def OR (b : Bool) (c : Dev nD) (k : ℕ) : Tal := ∑ o ∈ todo k, tallyAt (recvC b (peer c o) c) () N
def OX (c : Dev nD) : Tal := OR true c 0 + OR false c 0
def O₀ (c : Dev nD) : Tal := OX c + OB c 0

theorem OB_step (c : Dev nD) {k : ℕ} (hk : k < 31) : OB c k = OB c (k + 1) + tallyAt (barC (peer c ⟨k, hk⟩)) () 1 := by
  unfold OB; rw [todo_step hk, Finset.sum_insert (not_mem_todo hk), add_comm]
theorem OR_step (b : Bool) (c : Dev nD) {k : ℕ} (hk : k < 31) : OR b c k = OR b c (k + 1) + tallyAt (recvC b (peer c ⟨k, hk⟩) c) () N := by
  unfold OR; rw [todo_step hk, Finset.sum_insert (not_mem_todo hk), add_comm]
theorem OB_last (c : Dev nD) : OB c 31 = 0 := by unfold OB; rw [todo_last, Finset.sum_empty]
theorem OR_last (b : Bool) (c : Dev nD) : OR b c 31 = 0 := by unfold OR; rw [todo_last, Finset.sum_empty]

theorem sum_pos_cell {S : Finset (Fin 31)} {f : Fin 31 → GSem nD τ sig} {n : ℕ} {g : GSem nD τ sig} {u : Unit}
    (h : 0 < (∑ o ∈ S, (tallyAt (f o) () n : Tal)) g u) : ∃ o, g = f o := by
  induction S using Finset.induction_on with
  | empty => rw [Finset.sum_empty] at h; exact absurd h (Nat.lt_irrefl 0)
  | insert o S ho ih =>
    rw [Finset.sum_insert ho, Pi.add_apply, Finsupp.add_apply, tallyAt_apply] at h
    by_cases e : g = f o
    · exact ⟨o, e⟩
    · rw [if_neg (fun e' => e e'.1), Nat.zero_add] at h
      exact ih h

/-- Only TensorCores wait or owe. -/
def L (g : GSem nD τ sig) : Finset Unit := if g.1.2 = .tc then {()} else ∅
/-- The order of waits: staging and send cells, then the barrier, then the first exchange's receive cells, then the second's. -/
def lvS : SemLoc sig → ℕ
  | .reg _ => 1
  | .dma q => if q.val < 36 then 0 else if q.val < 68 then 2 else if q.val < 99 then 0 else 3
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

theorem lv_recv0 (s : Dev nD) : lvS (csem (.inr (false, .inr s))) = 2 := by
  have := dev_lt s
  show (if 36 + s.val < 36 then 0 else if 36 + s.val < 68 then 2 else if 36 + s.val < 99 then 0 else 3) = 2
  rw [if_neg (by omega), if_pos (by omega)]
theorem lv_recv1 (s : Dev nD) : lvS (csem (.inr (true, .inr s))) = 3 := by
  show (if 99 + s.val < 36 then 0 else if 99 + s.val < 68 then 2 else if 99 + s.val < 99 then 0 else 3) = 3
  rw [if_neg (by omega), if_neg (by omega), if_neg (by omega)]

theorem OB_lv {c : Dev nD} {k : ℕ} {g : GSem nD τ sig} {u : Unit} (h : 0 < OB c k g u) : g.1.2 = .tc ∧ lvS g.2 = 1 := by
  obtain ⟨o, rfl⟩ := sum_pos_cell h; exact ⟨rfl, rfl⟩
theorem OR0_lv {c : Dev nD} {k : ℕ} {g : GSem nD τ sig} {u : Unit} (h : 0 < OR false c k g u) : g.1.2 = .tc ∧ lvS g.2 = 2 := by
  obtain ⟨o, rfl⟩ := sum_pos_cell h; exact ⟨rfl, lv_recv0 c⟩
theorem OR1_lv {c : Dev nD} {k : ℕ} {g : GSem nD τ sig} {u : Unit} (h : 0 < OR true c k g u) : g.1.2 = .tc ∧ lvS g.2 = 3 := by
  obtain ⟨o, rfl⟩ := sum_pos_cell h; exact ⟨rfl, lv_recv1 c⟩
theorem add_pos_cell {O O' : Tal} {g : GSem nD τ sig} {u : Unit} (h : 0 < (O + O') g u) : 0 < O g u ∨ 0 < O' g u := by
  rw [Pi.add_apply, Finsupp.add_apply] at h; omega
theorem OX_lv {c : Dev nD} {g : GSem nD τ sig} {u : Unit} (h : 0 < OX c g u) : g.1.2 = .tc ∧ 1 < lvS g.2 := by
  rcases add_pos_cell h with h | h
  · exact ⟨(OR1_lv h).1, by rw [(OR1_lv h).2]; decide⟩
  · exact ⟨(OR0_lv h).1, by rw [(OR0_lv h).2]; decide⟩
theorem O₀_lv {c : Dev nD} {g : GSem nD τ sig} {u : Unit} (h : 0 < O₀ c g u) : g.1.2 = .tc ∧ 0 < lvS g.2 := by
  rcases add_pos_cell h with h | h
  · exact ⟨(OX_lv h).1, Nat.lt_trans Nat.one_pos (OX_lv h).2⟩
  · exact ⟨(OB_lv h).1, by rw [(OB_lv h).2]; decide⟩

/-- A device may wait on a semaphore below everything it owes. -/
theorem mayWait_of {c : Dev nD} {sm : SemLoc sig} {O : Tal} (h : ∀ g u, 0 < O g u → g.1.2 = .tc ∧ lvS sm < lvS g.2) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact Nat.le_refl _)
    (fun g u hg => (h g u hg).2)

end Cert.KProof

end
-- ==== Proof.Steps.lean ====
/-
One rule for each kind of step the body takes, at any point of its run: a signal, a transfer of either exchange, a wait for
one, and the wait for a sent transfer. Each says what the device holds before and after; `R` is whatever else it holds.
-/
module

public import proofs.«01_k».proof.Proof.Sched

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running a piece of device `c`'s body to `Q`. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- A statement checked on every device holds of each. -/
theorem of_all {p : Dev nD → Prop} (h : ∀ c, p c) (c : Dev nD) : p c := h c

/-- A piece, then the rest. -/
theorem bind_of {c : Dev nD} {α β : Type} {p : Prog (TpuEff nD τ sig (Elt F) Λ₀ .tc) α} {k : α → Prog (TpuEff nD τ sig (Elt F) Λ₀ .tc) β}
    {Q : β → sProp 𝕄} {P : sProp 𝕄}
    (h : ∀ Q' : α → sProp 𝕄, (∀ a P', (P' ⊢ runs c (k a) Q) → P' ⊢ Q' a) → P ⊢ runs c p Q') : P ⊢ runs c (p >>= k) Q := by
  unfold runs
  rw [wp_bind]
  exact h _ fun _ _ h => h

theorem ret_of {c : Dev nD} {α : Type} {a : α} {Q : α → sProp 𝕄} {P : sProp 𝕄} (h : P ⊢ Q a) : P ⊢ runs c (.ret a) Q := by
  unfold runs
  rw [wp_ret]
  exact h.trans fupd_intro

/-! ## What all devices know -/

/-- The invariant of every cell, that each has been reached, and the order of waits. -/
def records (K : Dev nD × Cel → ℕ) : sProp 𝕄 :=
  iprop(((bigSep Finset.univ fun x : Dev nD × Cel => cellInv ER (Rd m) (K x) (kcell x))
    ∗ bigSep Finset.univ fun x : Dev nD × Cel => reached ER (kcell x) 0) ∗ levAts L lv)

instance records_persistent (K : Dev nD × Cel → ℕ) : BI.Persistent (records m K) := by unfold records; infer_instance

theorem inv_at (K : Dev nD × Cel → ℕ) (x : Dev nD × Cel) : records m K ⊢ cellInv ER (Rd m) (K x) (kcell x) := by
  unfold records
  exact (sep_elim_left.trans sep_elim_left).trans (bigSep_elim (Φ := fun x : Dev nD × Cel => (cellInv ER (Rd m) (K x) (kcell x) : sProp 𝕄)) (Finset.mem_univ x))
theorem reached_at (K : Dev nD × Cel → ℕ) (x : Dev nD × Cel) : records m K ⊢ reached ER (kcell x) 0 := by
  unfold records
  exact (sep_elim_left.trans sep_elim_right).trans (bigSep_elim (Φ := fun x : Dev nD × Cel => (reached ER (kcell x) 0 : sProp 𝕄)) (Finset.mem_univ x))
theorem inv_bar (K : Dev nD × Cel → ℕ) (c : Dev nD) : records m K ⊢ cellInv ER (Rd m) (K (c, .inl ())) (barC c) := inv_at m K (c, .inl ())
theorem inv_send (K : Dev nD × Cel → ℕ) (b : Bool) (c : Dev nD) (o : Fin 31) :
    records m K ⊢ cellInv ER (Rd m) (K (c, .inr (b, .inl o))) (sendC b c o) := inv_at m K (c, .inr (b, .inl o))
theorem inv_recv (K : Dev nD × Cel → ℕ) (b : Bool) (c s : Dev nD) :
    records m K ⊢ cellInv ER (Rd m) (K (c, .inr (b, .inr s))) (recvC b c s) := inv_at m K (c, .inr (b, .inr s))
theorem reached_bar (K : Dev nD × Cel → ℕ) (c : Dev nD) : records m K ⊢ reached ER (barC c) 0 := reached_at m K (c, .inl ())
theorem reached_send (K : Dev nD × Cel → ℕ) (b : Bool) (c : Dev nD) (o : Fin 31) : records m K ⊢ reached ER (sendC b c o) 0 :=
  reached_at m K (c, .inr (b, .inl o))
theorem reached_recv (K : Dev nD × Cel → ℕ) (b : Bool) (c s : Dev nD) : records m K ⊢ reached ER (recvC b c s) 0 :=
  reached_at m K (c, .inr (b, .inr s))
theorem lev_at (K : Dev nD × Cel → ℕ) : records m K ⊢ levAts L lv := by
  unfold records; iintro ⟨-, H⟩; iexact H

/-- A device owing both exchanges' transfers may wait on its barrier; -/
theorem mayWait_bar (K : Dev nD × Cel → ℕ) (c : Dev nD) : records m K ⊢ MayWait (c : Thread nD τ) (.reg barS) () (OX c) :=
  BI.Entails.trans (lev_at m K) (mayWait_of fun _ _ hg => OX_lv hg)
/-- and one owing nothing below an exchange's receive cells, on each of those. -/
theorem mayWait_recv (K : Dev nD × Cel → ℕ) (c : Dev nD) (b : Bool) (O : Tal)
    (hO : ∀ g u, 0 < O g u → g.1.2 = .tc ∧ lvS (csem (.inr (b, .inr c))) < lvS g.2) (s : Dev nD) :
    records m K ⊢ MayWait (c : Thread nD τ) (.dma (recvS b s)) () O := by
  have e : lvS (.dma (recvS b s)) = lvS (csem (.inr (b, .inr c))) := by
    cases b
    · exact (lv_recv0 s).trans (lv_recv0 c).symm
    · exact (lv_recv1 s).trans (lv_recv1 c).symm
  refine BI.Entails.trans (lev_at m K) (mayWait_of fun g u hg => ?_)
  rw [e]; exact hO g u hg

/-! ## Taking a step of an exchange -/

theorem todo_sep {k : ℕ} (hk : k < 31) (Φ : Fin 31 → sProp 𝕄) :
    bigSep (todo k) Φ = iprop(Φ ⟨k, hk⟩ ∗ bigSep (todo (k + 1)) Φ) := by
  rw [todo_step hk, bigSep_insert (not_mem_todo hk)]
  rfl
theorem taken_sep {k : ℕ} (hk : k < 31) (Φ : Fin 31 → sProp 𝕄) :
    bigSep (taken (k + 1)) Φ = iprop(Φ ⟨k, hk⟩ ∗ bigSep (taken k) Φ) := by
  rw [taken_step hk, bigSep_insert (not_mem_taken hk)]
  rfl

/-! ## The steps -/

/-- What device `c` owes, whatever it has waited on. -/
def owing (c : Dev nD) (O : Tal) : sProp 𝕄 := iprop(∃ W, owes (c : Thread nD τ) O W)

/-- For the signal to its `o`-th peer: the duty's token and the two slots handed over. -/
def sigRes (c : Dev nD) (o : Fin 31) : sProp 𝕄 := iprop(dutyTok ER (barC (peer c o)) 0 c ∗ barPay (peer c o) c)
/-- For a transfer to it: the tokens of the send and of the receive duty. -/
def sendRes (b : Bool) (c : Dev nD) (o : Fin 31) : sProp 𝕄 :=
  iprop(dutyTok ER (sendC b c o) 0 c ∗ dutyTok ER (recvC b (peer c o) c) 0 c)
/-- For the wait for its transfer: the position and the credit; and after. -/
def waitRes (b : Bool) (c : Dev nD) (o : Fin 31) : sProp 𝕄 :=
  iprop(atPos ER (recvC b c (peer c o)) 0 ∅ 0 ∗ cred (tallyAt (recvC b c (peer c o)) () N))
def waited (b : Bool) (c : Dev nD) (o : Fin 31) : sProp 𝕄 :=
  iprop(atPos ER (recvC b c (peer c o)) 1 ∅ 0 ∗ slPts b c (peer c o) (recvV m b c))
/-- For the wait for the transfer sent to it; and after. -/
def backRes (b : Bool) (c : Dev nD) (o : Fin 31) : sProp 𝕄 :=
  iprop(atPos ER (sendC b c o) 0 ∅ 0 ∗ cred (tallyAt (sendC b c o) () N))
def back (b : Bool) (c : Dev nD) (o : Fin 31) : sProp 𝕄 :=
  iprop(atPos ER (sendC b c o) 1 ∅ 0 ∗ sendPay m b c o)

section
variable (K : Dev nD × Cel → ℕ) (c : Dev nD) {α : Type} {Q : α → sProp (MT nD τ sig Unit (Elt F) ℕ UU ℕ)} {R : sProp (MT nD τ sig Unit (Elt F) ℕ UU ℕ)}
  {cont : PUnit → Prog (TpuEff nD τ sig (Elt F) Λ₀ .tc) α}

/-- A signal to a peer's barrier. -/
theorem step_sig {k : ℕ} (hk : k < 31) {n : Dev nD} (hn : n = peer c ⟨k, hk⟩) {a : ℤ} (ha : a = (1 : ℕ))
    (h : iprop(records m K ∗ owing c (OX c + OB c (k + 1)) ∗ bigSep (todo (k + 1)) (sigRes c) ∗ R) ⊢ runs c (cont ⟨⟩) Q) :
    iprop(records m K ∗ owing c (OX c + OB c k) ∗ bigSep (todo k) (sigRes c) ∗ R)
      ⊢ runs c (.op (.semSignal (Dev.tc n : Thread nD τ) barS a) cont) Q := by
  subst hn ha
  rw [todo_sep hk]
  unfold sigRes owing
  iintro ⟨#Hr, ⟨%W, Ho⟩, ⟨⟨Ht, Hp⟩, Hs⟩, HR⟩
  ihave #Hi := (inv_bar m K (peer c ⟨k, hk⟩)) $$ Hr
  ihave #Hc := (reached_bar m K (peer c ⟨k, hk⟩)) $$ Hr
  iapply (Rounds.wp_signal 𝒱₀ ER (Rd m) (c : Thread nD τ) none (dst := (peer c ⟨k, hk⟩ : Thread nD τ)) (κ := K (peer c ⟨k, hk⟩, .inl ()))
      (d := c) (by rw [duties_bar]; exact Finset.mem_erase.mpr ⟨(peer_ne c _).symm, Finset.mem_univ _⟩) (amount_bar m _ c) ()
      (OX c + OB c (k + 1)) (O₀ := OX c + OB c k) (by rw [OB_step c hk, add_assoc])) $$ [Ho Ht Hp]
  · isplitr; · iexact Hi
    isplitl [Ho]; · iexact Ho
    isplitl [Ht]; · iexact Ht
    isplitl [Hp]; · rw [payload_bar]; iexact Hp
    iexact Hc
  iintro Ho
  iapply h
  unfold owing
  isplitr; · iexact Hr
  isplitl [Ho]; · iexists W; iexact Ho
  isplitl [Hs]; · iexact Hs
  iexact HR

/-- The wait on the device's own barrier. -/
theorem step_bar {a : ℤ} (ha : a = (31 : ℕ))
    (h : iprop(records m K ∗ owing c (OX c) ∗ (atPos ER (barC c) 1 ∅ 0 ∗ bigSep Finset.univ fun o => barPay c (peer c o)) ∗ R)
      ⊢ runs c (cont ⟨⟩) Q) :
    iprop(records m K ∗ owing c (OX c) ∗ (atPos ER (barC c) 0 ∅ 0 ∗ cred (tallyAt (barC c) () 31)) ∗ R)
      ⊢ runs c (.op (.semWait barS a) cont) Q := by
  subst ha
  unfold owing
  iintro ⟨#Hr, ⟨%W, Ho⟩, ⟨Ha, Hc⟩, HR⟩
  ihave #Hi := (inv_bar m K c) $$ Hr
  iapply (Rounds.wp_wait_rest_token 𝒱₀ ER (Rd m) (c : Thread nD τ) none (κ := K (c, .inl ()))
      (wpE_semWait_eq 𝒱₀ (c : Thread nD τ) none Set.univ) (Set.mem_univ _) () (O := OX c) (W := W) (R := 0) (m := 0) (T := ∅)
      (by rw [expect_bar])) $$ [Ho Ha Hc]
  · isplitr; · iexact Hi
    isplitl [Hc]; · iexact Hc
    isplitl [Ho]; · iexact Ho
    isplitr; · iapply (mayWait_bar m K c); iexact Hr
    iexact Ha
  iintro ⟨Ho, Ha, -, Hp⟩
  ihave Hp := (Entails.of_eq (rest_bar m c)) $$ Hp
  iapply h
  unfold owing
  isplitr; · iexact Hr
  isplitl [Ho]; · iexists _; iexact Ho
  isplitl [Ha Hp]
  · isplitl [Ha]; · iexact Ha
    iexact Hp
  iexact HR

/-- For the first exchange's transfer to the `o`-th peer: the tokens, the slot there and the block to send. -/
def put1 (c : Dev nD) (o : Fin 31) : sProp 𝕄 :=
  iprop(sendRes false c o ∗ (∃ f, slPts false (peer c o) c f) ∗ pbPts c (peer c o) (accV m c))
/-- For the second's: the tokens, the slot there and a share of the rows. -/
def put2 (c : Dev nD) (o : Fin 31) : sProp 𝕄 :=
  iprop(sendRes true c o ∗ (∃ f, slPts true (peer c o) c f) ∗ rbPts c (sh o) (rbufV m c))
/-- What a transfer leaves: the credit its wait takes. -/
def sent (b : Bool) (c : Dev nD) (o : Fin 31) : sProp 𝕄 := cred (tallyAt (sendC b c o) () N)

theorem slot_landed1 {off : Fin 3 → ℕ} (inb : ∀ a, off a + S1x8x256.size a ≤ S32x8x256.size a) {offs : Fin 2 → ℕ}
    (inbs : ∀ a, offs a + S8x256.size a ≤ S256x256.size a) (p : Dev nD) (h : off = ![c.val, 0, 0]) (hs : offs = ![8 * p.val, 0])
    (fd : S32x8x256.Idx → Elt F .bf16) :
    ((rSlice0 inb).view.loc (p : Thread nD τ) ↦[(rSlice0 inb).view.set]{fullShare}
        (rSlice0 inb).view.write (Elt F) fd ((pSlice inbs).view.read (Elt F) (accV m c)) Finset.univ : sProp 𝕄)
      ⊢ slPts false p c (recvV m false p) := by
  rw [set_rSlice0 inb c h]
  refine Entails.of_eq (pointsTo_congr fun i hi => ?_)
  refine (write_rSlice0 (F := F) inb c h fd _ hi).trans ?_
  rw [read_pSlice (F := F) inbs p hs]
  show _ = accV m (i 0) (rowAt p (rowOf i))
  rw [show i 0 = c from Fin.ext (mem_slot.mp hi)]

theorem slot_landed2 {off : Fin 3 → ℕ} (inb : ∀ a, off a + S1x8x256.size a ≤ S32x8x256.size a) (p : Dev nD) (h : off = ![c.val, 0, 0])
    (fd : S32x8x256.Idx → Elt F .bf16) :
    ((rSlice1 inb).view.loc (p : Thread nD τ) ↦[(rSlice1 inb).view.set]{fullShare}
        (rSlice1 inb).view.write (Elt F) fd ((Memref.whole cc0_scratch1 : Memref sig .tc .vmem S8x256 .bf16).view.read (Elt F) (rbufV m c)) Finset.univ : sProp 𝕄)
      ⊢ slPts true p c (recvV m true p) := by
  rw [set_rSlice1 inb c h]
  refine Entails.of_eq (pointsTo_congr fun i hi => ?_)
  refine (write_rSlice1 (F := F) inb c h fd _ hi).trans ?_
  show rbufV m c (rowOf i) = rbufV m (i 0) (rowOf i)
  rw [show i 0 = c from Fin.ext (mem_slot.mp hi)]

theorem pbPts_eq {offs : Fin 2 → ℕ} (inbs : ∀ a, offs a + S8x256.size a ≤ S256x256.size a) (p : Dev nD) (hs : offs = ![8 * p.val, 0])
    (f : S256x256.Idx → Elt F .bf16) :
    ((pSlice inbs).view.loc (c : Thread nD τ) ↦[(pSlice inbs).view.set]{fullShare} f : sProp 𝕄) = pbPts c p f := by
  rw [set_pSlice inbs p hs]; rfl
theorem slPts_eq1 {off : Fin 3 → ℕ} (inb : ∀ a, off a + S1x8x256.size a ≤ S32x8x256.size a) (s : Dev nD) (h : off = ![s.val, 0, 0])
    (f : S32x8x256.Idx → Elt F .bf16) :
    ((rSlice0 inb).view.loc (c : Thread nD τ) ↦[(rSlice0 inb).view.set]{fullShare} f : sProp 𝕄) = slPts false c s f := by
  rw [set_rSlice0 inb s h]; rfl
theorem slPts_eq2 {off : Fin 3 → ℕ} (inb : ∀ a, off a + S1x8x256.size a ≤ S32x8x256.size a) (s : Dev nD) (h : off = ![s.val, 0, 0])
    (f : S32x8x256.Idx → Elt F .bf16) :
    ((rSlice1 inb).view.loc (c : Thread nD τ) ↦[(rSlice1 inb).view.set]{fullShare} f : sProp 𝕄) = slPts true c s f := by
  rw [set_rSlice1 inb s h]; rfl
theorem rbPts_eq (q : PosShare TreeShare) (f : S8x256.Idx → Elt F .bf16) :
    ((Memref.whole cc0_scratch1 : Memref sig .tc .vmem S8x256 .bf16).view.loc (c : Thread nD τ)
      ↦[(Memref.whole cc0_scratch1 : Memref sig .tc .vmem S8x256 .bf16).view.set]{q} f : sProp 𝕄) = rbPts c q f := by
  rw [show (Memref.whole cc0_scratch1 : Memref sig .tc .vmem S8x256 .bf16).view.set = Finset.univ from View.set_whole _]; rfl

/-- A transfer of the first exchange: block `peer c k` of the partial result into the peer's slot `c`. -/
theorem step_put1 {k : ℕ} (hk : k < 31) {n : Dev nD} (hn : n = peer c ⟨k, hk⟩)
    {off : Fin 3 → ℕ} {inb : ∀ a, off a + S1x8x256.size a ≤ S32x8x256.size a} {offs : Fin 2 → ℕ}
    {inbs : ∀ a, offs a + S8x256.size a ≤ S256x256.size a} (ho : off = ![c.val, 0, 0]) (hos : offs = ![8 * (peer c ⟨k, hk⟩).val, 0])
    {sS sR : DmaSem sig} (hS : sS = sendS false ⟨k, hk⟩) (hR : sR = recvS false c)
    {hsc : (rSlice0 inb : Memref sig (Dev.tc n : Thread nD τ).2.kind .vmem S8x256 .bf16).view.ref.isScScratch = false}
    {hsrc : (pSlice inbs).view.WordExact} {hdst : (rSlice0 inb).view.WordExact}
    {hsem : DmaTarget.Typed .vmem (.dma sR) (.remote (Dev.tc n : Thread nD τ) (rSlice0 inb) (.dma sS) hsc)}
    (h : iprop(records m K ∗ owing c (OR true c 0 + OR false c (k + 1)) ∗ bigSep (todo (k + 1)) (put1 m c) ∗ bigSep (taken (k + 1)) (sent false c) ∗ R)
      ⊢ runs c (cont ⟨⟩) Q) :
    iprop(records m K ∗ owing c (OR true c 0 + OR false c k) ∗ bigSep (todo k) (put1 m c) ∗ bigSep (taken k) (sent false c) ∗ R)
      ⊢ runs c (.op (.enqueueDma (pSlice inbs) (.remote (Dev.tc n : Thread nD τ) (rSlice0 inb) (.dma sS) hsc) (.dma sR) hsrc hdst hsem) cont) Q := by
  subst hn hS hR
  rw [todo_sep hk]
  rw [taken_sep hk] at h
  unfold put1 sendRes
  iintro ⟨#Hr, Ho, ⟨⟨⟨Ht1, Ht2⟩, ⟨%fd, Hd⟩, Hs⟩, Hl⟩, Hn, HR⟩
  unfold owing
  icases Ho with ⟨%W, Ho⟩
  ihave #Hi1 := (inv_send m K false (c) ⟨k, hk⟩) $$ Hr
  ihave #Hi2 := (inv_recv m K false (peer c ⟨k, hk⟩) c) $$ Hr
  ihave #Hc1 := (reached_send m K false (c) ⟨k, hk⟩) $$ Hr
  ihave #Hc2 := (reached_recv m K false (peer c ⟨k, hk⟩) c) $$ Hr
  iapply (Rounds.wp_send_pointsTo 𝒱₀ ER (Rd m) (c : Thread nD τ) none (c' := (peer c ⟨k, hk⟩ : Thread nD τ)) (src := pSlice inbs) (dst := rSlice0 inb) (κ₁ := K (c, .inr (false, .inl ⟨k, hk⟩)))
      (κ₂ := K (peer c ⟨k, hk⟩, .inr (false, .inr c))) (r₁ := 0) (r₂ := 0) (d₁ := c) (d₂ := c) (q := fullShare) (fs := accV m c) (fd := fd)
      (by rw [duties_send]; exact Finset.mem_singleton_self _)
      (by rw [duties_recv m _ _ _ (peer_ne c _).symm]; exact Finset.mem_singleton_self _)
      () () N rfl (amount_send m false c _ c) (amount_recv m false _ c c)
      (OR true c 0 + OR false c (k + 1)) (O₀ := OR true c 0 + OR false c k) (by rw [OR_step false c hk, add_assoc]) (W := W)
      (by rw [payload_send, pbPts_eq c inbs _ hos]; exact BI.Entails.refl _)
      (by rw [payload_recv]; exact slot_landed1 m c inb inbs _ ho hos fd))
    $$ [Ht1 Ht2 Hd Hs Ho]
  · isplitr; · iexact Hi1
    isplitr; · iexact Hi2
    isplitl [Hs]; · rw [pbPts_eq c inbs _ hos]; iexact Hs
    isplitl [Hd]; · rw [slPts_eq1 _ inb _ ho]; iexact Hd
    isplitl [Ho]; · iexact Ho
    isplitl [Ht1]; · iexact Ht1
    isplitr; · iexact Hc1
    isplitl [Ht2]; · iexact Ht2
    iexact Hc2
  iintro ⟨Hw, Ho⟩
  iapply h
  unfold owing sent
  isplitr; · iexact Hr
  isplitl [Ho]; · iexists W; iexact Ho
  isplitl [Hl]; · iexact Hl
  isplitl [Hw Hn]
  · isplitl [Hw]; · iexact Hw
    iexact Hn
  iexact HR

/-- A transfer of the second: the reduced rows into the peer's slot `c`. -/
theorem step_put2 {k : ℕ} (hk : k < 31) {n : Dev nD} (hn : n = peer c ⟨k, hk⟩)
    {off : Fin 3 → ℕ} {inb : ∀ a, off a + S1x8x256.size a ≤ S32x8x256.size a} (ho : off = ![c.val, 0, 0])
    {sS sR : DmaSem sig} (hS : sS = sendS true ⟨k, hk⟩) (hR : sR = recvS true c)
    {hsc : (rSlice1 inb : Memref sig (Dev.tc n : Thread nD τ).2.kind .vmem S8x256 .bf16).view.ref.isScScratch = false}
    {hsrc : (Memref.whole cc0_scratch1 : Memref sig .tc .vmem S8x256 .bf16).view.WordExact} {hdst : (rSlice1 inb).view.WordExact}
    {hsem : DmaTarget.Typed .vmem (.dma sR) (.remote (Dev.tc n : Thread nD τ) (rSlice1 inb) (.dma sS) hsc)}
    (h : iprop(records m K ∗ owing c (OR true c (k + 1)) ∗ bigSep (todo (k + 1)) (put2 m c) ∗ bigSep (taken (k + 1)) (sent true c) ∗ R)
      ⊢ runs c (cont ⟨⟩) Q) :
    iprop(records m K ∗ owing c (OR true c k) ∗ bigSep (todo k) (put2 m c) ∗ bigSep (taken k) (sent true c) ∗ R)
      ⊢ runs c (.op (.enqueueDma (Memref.whole cc0_scratch1) (.remote (Dev.tc n : Thread nD τ) (rSlice1 inb) (.dma sS) hsc) (.dma sR) hsrc hdst hsem) cont) Q := by
  subst hn hS hR
  rw [todo_sep hk]
  rw [taken_sep hk] at h
  unfold put2 sendRes
  iintro ⟨#Hr, Ho, ⟨⟨⟨Ht1, Ht2⟩, ⟨%fd, Hd⟩, Hs⟩, Hl⟩, Hn, HR⟩
  unfold owing
  icases Ho with ⟨%W, Ho⟩
  ihave #Hi1 := (inv_send m K true (c) ⟨k, hk⟩) $$ Hr
  ihave #Hi2 := (inv_recv m K true (peer c ⟨k, hk⟩) c) $$ Hr
  ihave #Hc1 := (reached_send m K true (c) ⟨k, hk⟩) $$ Hr
  ihave #Hc2 := (reached_recv m K true (peer c ⟨k, hk⟩) c) $$ Hr
  iapply (Rounds.wp_send_pointsTo 𝒱₀ ER (Rd m) (c : Thread nD τ) none (c' := (peer c ⟨k, hk⟩ : Thread nD τ)) (src := Memref.whole cc0_scratch1) (dst := rSlice1 inb) (κ₁ := K (c, .inr (true, .inl ⟨k, hk⟩)))
      (κ₂ := K (peer c ⟨k, hk⟩, .inr (true, .inr c))) (r₁ := 0) (r₂ := 0) (d₁ := c) (d₂ := c) (q := sh ⟨k, hk⟩) (fs := rbufV m c) (fd := fd)
      (by rw [duties_send]; exact Finset.mem_singleton_self _)
      (by rw [duties_recv m _ _ _ (peer_ne c _).symm]; exact Finset.mem_singleton_self _)
      () () N rfl (amount_send m true c _ c) (amount_recv m true _ c c)
      (OR true c (k + 1)) (OR_step true c hk) (W := W)
      (by rw [payload_send, rbPts_eq]; exact BI.Entails.refl _)
      (by rw [payload_recv]; exact slot_landed2 m c inb _ ho fd))
    $$ [Ht1 Ht2 Hd Hs Ho]
  · isplitr; · iexact Hi1
    isplitr; · iexact Hi2
    isplitl [Hs]; · rw [rbPts_eq]; iexact Hs
    isplitl [Hd]; · rw [slPts_eq2 _ inb _ ho]; iexact Hd
    isplitl [Ho]; · iexact Ho
    isplitl [Ht1]; · iexact Ht1
    isplitr; · iexact Hc1
    isplitl [Ht2]; · iexact Ht2
    iexact Hc2
  iintro ⟨Hw, Ho⟩
  iapply h
  unfold owing sent
  isplitr; · iexact Hr
  isplitl [Ho]; · iexists W; iexact Ho
  isplitl [Hl]; · iexact Hl
  isplitl [Hw Hn]
  · isplitl [Hw]; · iexact Hw
    iexact Hn
  iexact HR

/-- The wait for a peer's transfer, by a device owing `O`. -/
theorem step_wait (b : Bool) (O : Tal) (hO : ∀ g u, 0 < O g u → g.1.2 = .tc ∧ lvS (csem (.inr (b, .inr c))) < lvS g.2)
    {k : ℕ} (hk : k < 31) {sR : DmaSem sig} (hR : sR = recvS b (peer c ⟨k, hk⟩)) {s s' : Shape} {e e' : EltTy}
    {src : Memref sig .tc .vmem s e} {dst : Memref sig .tc .vmem s' e'} (hN : dst.view.dmaCredit = N) {h1 h2}
    (h : iprop(records m K ∗ owing c O ∗ bigSep (todo (k + 1)) (waitRes b c) ∗ bigSep (taken (k + 1)) (waited m b c) ∗ R)
      ⊢ runs c (cont ⟨⟩) Q) :
    iprop(records m K ∗ owing c O ∗ bigSep (todo k) (waitRes b c) ∗ bigSep (taken k) (waited m b c) ∗ R)
      ⊢ runs c (.op (.waitDma2 sR src dst h1 h2) cont) Q := by
  subst hR
  rw [todo_sep hk]
  rw [taken_sep hk] at h
  unfold waitRes
  iintro ⟨#Hr, Ho, ⟨⟨Ha, Hc⟩, Hl⟩, Hn, HR⟩
  unfold owing
  icases Ho with ⟨%W, Ho⟩
  ihave #Hi := (inv_recv m K b (c) (peer c ⟨k, hk⟩)) $$ Hr
  iapply (Rounds.wp_wait_rest_token 𝒱₀ ER (Rd m) (c : Thread nD τ) none (κ := K (c, .inr (b, .inr (peer c ⟨k, hk⟩))))
      (wpE_waitDma2_eq 𝒱₀ (c : Thread nD τ) none Set.univ) (Set.mem_univ _) () (O := O) (W := W) (R := 0) (m := 0) (T := ∅)
      (by rw [Nat.zero_add, hN]; exact (expect_recv m b c _ (peer_ne c _)).symm)) $$ [Ho Ha Hc]
  · isplitr; · iexact Hi
    isplitl [Hc]; · rw [hN]; iexact Hc
    isplitl [Ho]; · iexact Ho
    isplitr
    · iapply (mayWait_recv m K c b O hO (peer c ⟨k, hk⟩)); iexact Hr
    iexact Ha
  iintro ⟨Ho, Ha, -, Hp⟩
  ihave Hp := (Entails.of_eq (rest_recv m b c _ (peer_ne c ⟨k, hk⟩))) $$ Hp
  iapply h
  unfold owing waited
  isplitr; · iexact Hr
  isplitl [Ho]; · iexists _; iexact Ho
  isplitl [Hl]; · iexact Hl
  isplitl [Ha Hp Hn]
  · isplitl [Ha Hp]
    · isplitl [Ha]; · iexact Ha
      iexact Hp
    iexact Hn
  iexact HR

/-- The wait for a transfer sent, by a device owing nothing. -/
theorem step_back (b : Bool) {k : ℕ} (hk : k < 31) {sS : DmaSem sig} (hS : sS = sendS b ⟨k, hk⟩) {s s' : Shape} {e e' : EltTy}
    {src : Memref sig .tc .vmem s e} {dst : Memref sig .tc .vmem s' e'} (hN : dst.view.dmaCredit = N) {h1 h2}
    (h : iprop(records m K ∗ owing c 0 ∗ bigSep (todo (k + 1)) (backRes b c) ∗ bigSep (taken (k + 1)) (back m b c) ∗ R)
      ⊢ runs c (cont ⟨⟩) Q) :
    iprop(records m K ∗ owing c 0 ∗ bigSep (todo k) (backRes b c) ∗ bigSep (taken k) (back m b c) ∗ R)
      ⊢ runs c (.op (.waitDma2 sS src dst h1 h2) cont) Q := by
  subst hS
  rw [todo_sep hk]
  rw [taken_sep hk] at h
  unfold backRes
  iintro ⟨#Hr, Ho, ⟨⟨Ha, Hc⟩, Hl⟩, Hn, HR⟩
  unfold owing
  icases Ho with ⟨%W, Ho⟩
  ihave #Hi := (inv_send m K b (c) ⟨k, hk⟩) $$ Hr
  iapply (Rounds.wp_wait_rest_token 𝒱₀ ER (Rd m) (c : Thread nD τ) none (κ := K (c, .inr (b, .inl ⟨k, hk⟩)))
      (wpE_waitDma2_eq 𝒱₀ (c : Thread nD τ) none Set.univ) (Set.mem_univ _) () (O := 0) (W := W) (R := 0) (m := 0) (T := ∅)
      (by rw [Nat.zero_add, hN]; exact (expect_send m b c _).symm)) $$ [Ho Ha Hc]
  · isplitr; · iexact Hi
    isplitl [Hc]; · rw [hN]; iexact Hc
    isplitl [Ho]; · iexact Ho
    isplitr; · rw [MayWait_zero]; iempintro
    iexact Ha
  iintro ⟨Ho, Ha, -, Hp⟩
  ihave Hp := (Entails.of_eq (rest_send m b c ⟨k, hk⟩)) $$ Hp
  iapply h
  unfold owing back
  isplitr; · iexact Hr
  isplitl [Ho]; · iexists _; iexact Ho
  isplitl [Hl]; · iexact Hl
  isplitl [Ha Hp Hn]
  · isplitl [Ha Hp]
    · isplitl [Ha]; · iexact Ha
      iexact Hp
    iexact Hn
  iexact HR

end

end Cert.KProof

end
-- ==== Proof.Pieces.lean ====
/-
A device's buffers, whole and in pieces: the partial result by blocks, a receive buffer by slots, the reduced rows by shares;
and the copy of its own block a device makes within the first exchange.
-/
module

public import proofs.«01_k».proof.Proof.Steps
public import Idealize.ShloMosaic.Lib.Ring

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over the devices is its member at `c` and those at its peers. -/
theorem around (c : Dev nD) (Φ : Dev nD → sProp 𝕄) :
    bigSep Finset.univ Φ = iprop(Φ c ∗ bigSep Finset.univ fun o => Φ (peer c o)) := by
  rw [bigSep_erase (Finset.mem_univ c), others_eq, bigSep_map]
  rfl

/-- The partial result, block by block. -/
theorem pb_pieces (c : Dev nD) (f : S256x256.Idx → Elt F .bf16) :
    (((c : Thread nD τ).loc cc0_scratch0) ↦{fullShare} f : sProp 𝕄)
      = iprop(pbPts c c f ∗ bigSep Finset.univ fun o => pbPts c (peer c o) f) :=
  (Ring.pointsTo_blocks (ℓ := (c : Thread nD τ).loc cc0_scratch0) blk blk_disjoint blk_cover f).trans (around c _)

/-- A receive buffer whole, -/
def bufPts (b : Bool) (c : Dev nD) (f : S32x8x256.Idx → Elt F .bf16) : sProp 𝕄 :=
  match b with
  | false => ((c : Thread nD τ).loc cc0_scratch2) ↦{fullShare} f
  | true => ((c : Thread nD τ).loc cc0_scratch3) ↦{fullShare} f
/-- and slot by slot. -/
theorem rb_pieces (b : Bool) (c : Dev nD) (f : S32x8x256.Idx → Elt F .bf16) :
    (bufPts b c f : sProp 𝕄) = iprop(slPts b c c f ∗ bigSep Finset.univ fun o => slPts b c (peer c o) f) := by
  cases b
  · exact (Ring.pointsTo_blocks (ℓ := (c : Thread nD τ).loc cc0_scratch2) slot slot_disjoint slot_cover f).trans (around c _)
  · exact (Ring.pointsTo_blocks (ℓ := (c : Thread nD τ).loc cc0_scratch3) slot slot_disjoint slot_cover f).trans (around c _)

/-- A family over thirty-two is its last member and the thirty-one before. -/
theorem last_apart (Φ : Fin 32 → sProp 𝕄) :
    bigSep Finset.univ Φ = iprop(Φ (Fin.last 31) ∗ bigSep Finset.univ fun o : Fin 31 => Φ o.castSucc) := by
  have e : (Finset.univ : Finset (Fin 32)) = insert (Fin.last 31) (Finset.univ.map (Fin.castSuccEmb : Fin 31 ↪ Fin 32)) := by decide
  rw [e, bigSep_insert (by decide), bigSep_map]
  rfl

/-- The reduced rows, share by share. -/
theorem share_pieces (c : Dev nD) (f : S8x256.Idx → Elt F .bf16) :
    (rbPts c fullShare f : sProp 𝕄) = iprop(rbPts c shOwn f ∗ bigSep Finset.univ fun o => rbPts c (sh o) f) :=
  (ShareLeaves.pointsTo_leaves (ℓ := (c : Thread nD τ).loc cc0_scratch1) Finset.univ f 5 fullShare).trans
    (last_apart (F := F) fun i : Fin 32 => ((c : Thread nD τ).loc cc0_scratch1) ↦{ShareLeaves.leaf 5 fullShare i} f)

/-! ## Loads and stores at the head of a program -/

section
variable {c : Dev nD} {α : Type} {Q : α → sProp (MT nD τ sig Unit (Elt F) ℕ UU ℕ)} {R : sProp (MT nD τ sig Unit (Elt F) ℕ UU ℕ)}

/-- One statement through another. -/
theorem via {P : sProp 𝕄} (P' : sProp 𝕄) {G : sProp 𝕄} (h : P ⊢ P') (h' : P' ⊢ G) : P ⊢ G := h.trans h'

theorem load_of {cs : CoreSpace} {s : Shape} {e : EltTy} {mr : Memref sig .tc cs s e} {r : LoadRect s} {hl : mr.view.LoadsAt r}
    {cont : (r.shape.Idx → Elt F e) → Prog (TpuEff nD τ sig (Elt F) Λ₀ .tc) α}
    (S : Finset (Idx (mr.view.loc (c : Thread nD τ)))) (q : PosShare TreeShare) (f : Buf (Elt F) (mr.view.loc (c : Thread nD τ)))
    (hS : mr.view.setOn r.set ⊆ S) {v : r.shape.Idx → Elt F e} (hv : mr.view.readAt (Elt F) r f = v)
    (h : iprop((mr.view.loc (c : Thread nD τ) ↦[S]{q} f) ∗ R) ⊢ runs c (cont v) Q) :
    iprop((mr.view.loc (c : Thread nD τ) ↦[S]{q} f) ∗ R) ⊢ runs c (.op (.load mr r hl) cont) Q := by
  subst hv
  iintro ⟨H, HR⟩
  iapply (wp_load 𝒱₀ (c : Thread nD τ) none Set.univ (m := mr) hS) $$ H
  iintro H
  iapply h
  isplitl [H]; · iexact H
  iexact HR

theorem store_of {cs : CoreSpace} {s : Shape} {e : EltTy} {mr : Memref sig .tc cs s e} {r : Rect s} {w : r.shape.Idx → Elt F e}
    {hx : (mr.access r).Stores Finset.univ} {hm : (Finset.univ : Finset r.shape.Idx) = Finset.univ ∨ ∀ a, r.stride a = 1}
    {cont : PUnit → Prog (TpuEff nD τ sig (Elt F) Λ₀ .tc) α}
    (S : Finset (Idx ((mr.access r).loc (c : Thread nD τ)))) (f g : Buf (Elt F) ((mr.access r).loc (c : Thread nD τ)))
    (hS : (mr.access r).setOn Finset.univ ⊆ S) (hg : ∀ i ∈ S, (mr.access r).write (Elt F) f w Finset.univ i = g i)
    (h : iprop(((mr.access r).loc (c : Thread nD τ) ↦[S]{fullShare} g) ∗ R) ⊢ runs c (cont ⟨⟩) Q) :
    iprop(((mr.access r).loc (c : Thread nD τ) ↦[S]{fullShare} f) ∗ R) ⊢ runs c (.op (.store mr r w Finset.univ hx hm) cont) Q := by
  iintro ⟨H, HR⟩
  iapply (wp_store 𝒱₀ (c : Thread nD τ) none Set.univ (m := mr) (r := r) (Mk := Finset.univ) hS) $$ H
  iintro H
  iapply h
  isplitl [H]
  · iapply (Entails.of_eq (pointsTo_congr hg)); iexact H
  iexact HR

theorem ret_upd {a : α} {P : sProp 𝕄} (h : P ⊢ iprop(|={Set.univ}=> Q a)) : P ⊢ runs c (.ret a) Q := by
  unfold runs
  rw [wp_ret]
  exact h

end

/-! ## The device's own block -/

theorem rows_numel : S8x256.numel = S1x8x256.numel := by decide

theorem own_rows (w : S8x256.Idx → Elt F .bf16) (j : S8x256.Idx) :
    shapeCast S1x8x256 w shapeCasts_S8x256_S1x8x256 (Shape.reshapeEquiv rows_numel j) = w j := by
  show w (Shape.reshapeEquiv _ (Shape.reshapeEquiv rows_numel j)) = w j
  rw [Shape.reshapeEquiv_reshapeEquiv, Shape.reshapeEquiv_self]

/-- A slot's worth stored into slot `c` of a receive buffer. -/
theorem write_own1 (c : Dev nD) {off : Fin 3 → ℕ} (inb : ∀ a, off a + S1x8x256.size a ≤ S32x8x256.size a)
    (h : off = ![c.val, 0, 0]) (f : S32x8x256.Idx → Elt F .bf16) (w : S1x8x256.Idx → Elt F .bf16) (i : S32x8x256.Idx) (hi : i ∈ slot c) :
    ((Memref.whole cc0_scratch2 : Memref sig .tc .vmem S32x8x256 .bf16).access (Rect.unit (s := S32x8x256) off S1x8x256.size inb)).write (Elt F) f w
      Finset.univ i = w (Shape.reshapeEquiv rows_numel (rowOf i)) := by
  have e : ((Memref.whole cc0_scratch2 : Memref sig .tc .vmem S32x8x256 .bf16).access (Rect.unit (s := S32x8x256) off S1x8x256.size inb)).emb
      (Shape.reshapeEquiv rows_numel (rowOf i)) = i := (emb_slot inb c h rows_numel (rowOf i)).trans (slotAt_rowOf hi)
  have := View.write_emb_of_mem (v := (Memref.whole cc0_scratch2 : Memref sig .tc .vmem S32x8x256 .bf16).access (Rect.unit (s := S32x8x256) off S1x8x256.size inb))
    (Val := Elt F) f w (Finset.mem_univ (Shape.reshapeEquiv rows_numel (rowOf i)))
  rw [e] at this
  exact this
theorem write_own2 (c : Dev nD) {off : Fin 3 → ℕ} (inb : ∀ a, off a + S1x8x256.size a ≤ S32x8x256.size a)
    (h : off = ![c.val, 0, 0]) (f : S32x8x256.Idx → Elt F .bf16) (w : S1x8x256.Idx → Elt F .bf16) (i : S32x8x256.Idx) (hi : i ∈ slot c) :
    ((Memref.whole cc0_scratch3 : Memref sig .tc .vmem S32x8x256 .bf16).access (Rect.unit (s := S32x8x256) off S1x8x256.size inb)).write (Elt F) f w
      Finset.univ i = w (Shape.reshapeEquiv rows_numel (rowOf i)) := by
  have e : ((Memref.whole cc0_scratch3 : Memref sig .tc .vmem S32x8x256 .bf16).access (Rect.unit (s := S32x8x256) off S1x8x256.size inb)).emb
      (Shape.reshapeEquiv rows_numel (rowOf i)) = i := (emb_slot inb c h rows_numel (rowOf i)).trans (slotAt_rowOf hi)
  have := View.write_emb_of_mem (v := (Memref.whole cc0_scratch3 : Memref sig .tc .vmem S32x8x256 .bf16).access (Rect.unit (s := S32x8x256) off S1x8x256.size inb))
    (Val := Elt F) f w (Finset.mem_univ (Shape.reshapeEquiv rows_numel (rowOf i)))
  rw [e] at this
  exact this

/-- What a device reads of its own block of the partial result, stored into its own slot, is what the slot ends up holding. -/
theorem own_copy1 (c : Dev nD) {off : Fin 3 → ℕ} (inb : ∀ a, off a + S1x8x256.size a ≤ S32x8x256.size a) {offs : Fin 2 → ℕ}
    (inbs : ∀ a, offs a + S8x256.size a ≤ S256x256.size a) (h : off = ![c.val, 0, 0]) (hs : offs = ![8 * c.val, 0])
    (f : S32x8x256.Idx → Elt F .bf16) (i : S32x8x256.Idx) (hi : i ∈ slot c) :
    ((Memref.whole cc0_scratch2 : Memref sig .tc .vmem S32x8x256 .bf16).access (Rect.unit (s := S32x8x256) off S1x8x256.size inb)).write (Elt F) f
        (k0_pay9 ((Memref.whole cc0_scratch0 : Memref sig .tc .vmem S256x256 .bf16).view.readAt (Elt F)
          (Rect.unit (s := S256x256) offs S8x256.size inbs).toLoadRect (accV m c))) Finset.univ i
      = recv1V m c i := by
  refine (write_own1 c inb h f _ i hi).trans ?_
  unfold k0_pay9
  refine (own_rows (F := F) ((Memref.whole cc0_scratch0 : Memref sig .tc .vmem S256x256 .bf16).view.readAt (Elt F)
    (Rect.unit (s := S256x256) offs S8x256.size inbs).toLoadRect (accV m c)) (rowOf i)).trans ?_
  show accV m c ((Rect.unit (s := S256x256) offs S8x256.size inbs).emb (rowOf i)) = accV m (i 0) (rowAt c (rowOf i))
  rw [emb_blk inbs c hs, show i 0 = c from Fin.ext (mem_slot.mp hi)]

/-- Its own share of the reduced rows, likewise. -/
theorem own_copy2 (c : Dev nD) {off : Fin 3 → ℕ} (inb : ∀ a, off a + S1x8x256.size a ≤ S32x8x256.size a)
    (h : off = ![c.val, 0, 0]) (f : S32x8x256.Idx → Elt F .bf16) (i : S32x8x256.Idx) (hi : i ∈ slot c) :
    ((Memref.whole cc0_scratch3 : Memref sig .tc .vmem S32x8x256 .bf16).access (Rect.unit (s := S32x8x256) off S1x8x256.size inb)).write (Elt F) f
        (k0_pay11 (rbufV m c)) Finset.univ i
      = recv2V m c i := by
  refine (write_own2 c inb h f _ i hi).trans ?_
  unfold k0_pay11
  refine (own_rows (F := F) (rbufV m c) (rowOf i)).trans ?_
  show rbufV m c (rowOf i) = rbufV m (i 0) (rowOf i)
  rw [show i 0 = c from Fin.ext (mem_slot.mp hi)]

end Cert.KProof

end
-- ==== Proof.Phases.lean ====
/-
How a device's holdings regroup between two phases of its body: what one phase leaves, arranged for the next one to take.
-/
module

public import proofs.«01_k».proof.Proof.Pieces
public import Idealize.ShloMosaic.Lib.Rounds.Family

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## What a device holds -/

/-- Its operands, staged. -/
def xP (c : Dev nD) : sProp 𝕄 := ((c : Thread nD τ).loc cc0_stg0_0) ↦{fullShare} xC m c
def rwP (c : Dev nD) : sProp 𝕄 := ((c : Thread nD τ).loc cc0_stg1_0) ↦{fullShare} rwC m c
def ixP (c : Dev nD) : sProp 𝕄 := ((c : Thread nD τ).loc cc0_stg2_0) ↦{fullShare} ixC m c
def ewP (c : Dev nD) : sProp 𝕄 := ((c : Thread nD τ).loc cc0_stg3_0) ↦{fullShare} ewC m c
def ops (c : Dev nD) : sProp 𝕄 := iprop(xP m c ∗ rwP m c ∗ ixP m c ∗ ewP m c)
/-- The result's staging buffer, -/
def outP (c : Dev nD) (f : S256x256.Idx → Elt F .f32) : sProp 𝕄 := ((c : Thread nD τ).loc cc0_stg4_0) ↦{fullShare} f
/-- the partial result whole, -/
def pbP (c : Dev nD) (f : S256x256.Idx → Elt F .bf16) : sProp 𝕄 := ((c : Thread nD τ).loc cc0_scratch0) ↦{fullShare} f
/-- its barrier cell's position and credit, -/
def barIn (c : Dev nD) : sProp 𝕄 := iprop(atPos ER (barC c) 0 ∅ 0 ∗ cred (tallyAt (barC c) () 31))
/-- its position at each send cell, -/
def sendPos (b : Bool) (c : Dev nD) : sProp 𝕄 := bigSep Finset.univ fun o => atPos ER (sendC b c o) 0 ∅ 0
/-- at the receive cells once waited on, -/
def recvPos (b : Bool) (c : Dev nD) : sProp 𝕄 := bigSep Finset.univ fun o => atPos ER (recvC b c (peer c o)) 1 ∅ 0
/-- and at the receive cells for itself. -/
def selfPos (c : Dev nD) : sProp 𝕄 := iprop(atPos ER (recvC false c c) 0 ∅ 0 ∗ atPos ER (recvC true c c) 0 ∅ 0)
/-- The peers' slots of the second exchange, to be written. -/
def slots2 (c : Dev nD) : sProp 𝕄 := bigSep Finset.univ fun o => iprop(∃ f, slPts true (peer c o) c f)

/-- What the body starts from beside the records, the debts and the signals' resources. -/
def held (c : Dev nD) : sProp 𝕄 :=
  iprop(ops m c ∗ (∃ f, pbP c f) ∗ barIn c ∗ bigSep Finset.univ (sendRes false c) ∗ (∃ f, slPts false c c f)
    ∗ bigSep (todo 0) (waitRes false c) ∗ (∃ f, rbPts c fullShare f) ∗ bigSep Finset.univ (sendRes true c)
    ∗ (∃ f, slPts true c c f) ∗ bigSep (todo 0) (waitRes true c) ∗ (∃ f, outP c f) ∗ sendPos false c ∗ sendPos true c ∗ selfPos c)

/-- What is through with after the first sends, -/
def done1 (c : Dev nD) : sProp 𝕄 := iprop(atPos ER (barC c) 1 ∅ 0 ∗ ops m c)
/-- after the first copy of its own, -/
def done2 (c : Dev nD) : sProp 𝕄 := iprop(pbPts c c (accV m c) ∗ bigSep Finset.univ (sent false c) ∗ done1 m c)
/-- after the first waits, -/
def done3 (c : Dev nD) : sProp 𝕄 := iprop(bufPts false c (recv1V m c) ∗ recvPos false c ∗ done2 m c)
/-- after the second sends, -/
def done4 (c : Dev nD) : sProp 𝕄 := iprop(bigSep Finset.univ (sent true c) ∗ done3 m c)
/-- after the second waits. -/
def done5 (c : Dev nD) : sProp 𝕄 := iprop(recvPos true c ∗ rbPts c shOwn (rbufV m c) ∗ done4 m c)

section
variable (K : Dev nD × Cel → ℕ) (c : Dev nD) {A B D P S : sProp (MT nD τ sig Unit (Elt F) ℕ UU ℕ)} {R : sProp (MT nD τ sig Unit (Elt F) ℕ UU ℕ)}

theorem ops_x : iprop(ops m c ∗ R) ⊢ iprop(xP m c ∗ (xP m c -∗ ops m c ∗ R)) := by
  unfold ops
  iintro ⟨⟨H0, H1, H2, H3⟩, HR⟩
  isplitl [H0]; · iexact H0
  iintro H0
  isplitl [H0 H1 H2 H3]
  · isplitl [H0]; · iexact H0
    isplitl [H1]; · iexact H1
    isplitl [H2] <;> iassumption
  iexact HR
theorem ops_rw : iprop(ops m c ∗ R) ⊢ iprop(rwP m c ∗ (rwP m c -∗ ops m c ∗ R)) := by
  unfold ops
  iintro ⟨⟨H0, H1, H2, H3⟩, HR⟩
  isplitl [H1]; · iexact H1
  iintro H1
  isplitl [H0 H1 H2 H3]
  · isplitl [H0]; · iexact H0
    isplitl [H1]; · iexact H1
    isplitl [H2] <;> iassumption
  iexact HR
theorem ops_ix : iprop(ops m c ∗ R) ⊢ iprop(ixP m c ∗ (ixP m c -∗ ops m c ∗ R)) := by
  unfold ops
  iintro ⟨⟨H0, H1, H2, H3⟩, HR⟩
  isplitl [H2]; · iexact H2
  iintro H2
  isplitl [H0 H1 H2 H3]
  · isplitl [H0]; · iexact H0
    isplitl [H1]; · iexact H1
    isplitl [H2] <;> iassumption
  iexact HR
theorem ops_ew : iprop(ops m c ∗ R) ⊢ iprop(ewP m c ∗ (ewP m c -∗ ops m c ∗ R)) := by
  unfold ops
  iintro ⟨⟨H0, H1, H2, H3⟩, HR⟩
  isplitl [H3]; · iexact H3
  iintro H3
  isplitl [H0 H1 H2 H3]
  · isplitl [H0]; · iexact H0
    isplitl [H1]; · iexact H1
    isplitl [H2] <;> iassumption
  iexact HR

theorem swap : iprop(P ∗ S ∗ R) ⊢ iprop(S ∗ P ∗ R) := by
  iintro ⟨H1, H2, H3⟩
  isplitl [H2]; · iexact H2
  isplitl [H1] <;> iassumption

/-- The signals sent: the operands to the front, -/
theorem after_signals : iprop(records m K ∗ owing c (OX c + OB c 31) ∗ bigSep (todo 31) (sigRes c) ∗ (ops m c ∗ R))
    ⊢ iprop(ops m c ∗ (records m K ∗ owing c (OX c) ∗ R)) := by
  rw [OB_last, add_zero, todo_last]
  iintro ⟨H1, H2, -, H3, H4⟩
  isplitl [H3]; · iexact H3
  isplitl [H1]; · iexact H1
  isplitl [H2] <;> iassumption

/-- then the partial result, -/
theorem after_operands : iprop(ops m c ∗ (A ∗ B ∗ (P ∗ R))) ⊢ iprop(P ∗ (A ∗ B ∗ (ops m c ∗ R))) := by
  iintro ⟨H1, H2, H3, H4, H5⟩
  isplitl [H4]; · iexact H4
  isplitl [H2]; · iexact H2
  isplitl [H3]; · iexact H3
  isplitl [H1] <;> iassumption

/-- then the barrier. -/
theorem before_barrier : iprop(P ∗ (A ∗ B ∗ (S ∗ (D ∗ R)))) ⊢ iprop(A ∗ B ∗ D ∗ (P ∗ S ∗ R)) := by
  iintro ⟨H1, H2, H3, H4, H5, H6⟩
  isplitl [H2]; · iexact H2
  isplitl [H3]; · iexact H3
  isplitl [H5]; · iexact H5
  isplitl [H1]; · iexact H1
  isplitl [H4] <;> iassumption

/-- Past the barrier, every transfer of the first exchange has what it takes. -/
theorem before_put1 : iprop(records m K ∗ owing c (OX c) ∗ (atPos ER (barC c) 1 ∅ 0 ∗ bigSep Finset.univ fun o => barPay c (peer c o))
      ∗ (pbP c (accV m c) ∗ ops m c ∗ (bigSep Finset.univ (sendRes false c) ∗ R)))
    ⊢ iprop(records m K ∗ owing c (OR true c 0 + OR false c 0) ∗ bigSep (todo 0) (put1 m c) ∗ bigSep (taken 0) (sent false c)
      ∗ (pbPts c c (accV m c) ∗ (slots2 c ∗ done1 m c ∗ R))) := by
  rw [todo_zero, taken_zero, bigSep_empty]
  unfold put1 barPay pbP slots2 done1 OX
  rw [bigSep_sep', bigSep_sep', bigSep_sep', pb_pieces]
  iintro ⟨H1, H2, ⟨Ha, Hs1, Hs2⟩, ⟨Hp, Hps⟩, Ho, Ht, HR⟩
  isplitl [H1]; · iexact H1
  isplitl [H2]; · iexact H2
  isplitl [Ht Hs1 Hps]
  · isplitl [Ht]; · iexact Ht
    isplitl [Hs1] <;> iassumption
  isplitr; · iempintro
  isplitl [Hp]; · iexact Hp
  isplitl [Hs2]; · iexact Hs2
  isplitl [Ha Ho]
  · isplitl [Ha] <;> iassumption
  iexact HR

/-- The first sends made: the device's own block, -/
theorem after_put1 : iprop(records m K ∗ owing c (OR true c 0 + OR false c 31) ∗ bigSep (todo 31) (put1 m c) ∗ bigSep (taken 31) (sent false c)
      ∗ (pbPts c c (accV m c) ∗ R))
    ⊢ iprop(pbPts c c (accV m c) ∗ (records m K ∗ owing c (OR true c 0) ∗ bigSep Finset.univ (sent false c) ∗ R)) := by
  rw [OR_last, add_zero, todo_last, taken_last]
  iintro ⟨H1, H2, -, H3, H4, H5⟩
  isplitl [H4]; · iexact H4
  isplitl [H1]; · iexact H1
  isplitl [H2]; · iexact H2
  isplitl [H3] <;> iassumption

/-- into its own slot. -/
theorem before_copy1 : iprop(pbPts c c (accV m c) ∗ (A ∗ B ∗ bigSep Finset.univ (sent false c) ∗ (D ∗ done1 m c ∗ (P ∗ R))))
    ⊢ iprop(P ∗ (A ∗ B ∗ done2 m c ∗ (D ∗ R))) := by
  unfold done2
  iintro ⟨H1, H2, H3, H4, H5, H6, H7, H8⟩
  isplitl [H7]; · iexact H7
  isplitl [H2]; · iexact H2
  isplitl [H3]; · iexact H3
  isplitl [H1 H4 H6]
  · isplitl [H1]; · iexact H1
    isplitl [H4] <;> iassumption
  isplitl [H5] <;> iassumption

/-- The waits of the first exchange, -/
theorem before_wait1 : iprop(P ∗ (A ∗ B ∗ D ∗ (S ∗ (bigSep (todo 0) (waitRes false c) ∗ R))))
    ⊢ iprop(A ∗ B ∗ bigSep (todo 0) (waitRes false c) ∗ bigSep (taken 0) (waited m false c) ∗ (P ∗ D ∗ S ∗ R)) := by
  rw [taken_zero, bigSep_empty]
  iintro ⟨H1, H2, H3, H4, H5, H6, H7⟩
  isplitl [H2]; · iexact H2
  isplitl [H3]; · iexact H3
  isplitl [H6]; · iexact H6
  isplitr; · iempintro
  isplitl [H1]; · iexact H1
  isplitl [H4]; · iexact H4
  isplitl [H5] <;> iassumption

theorem joined (b : Bool) : iprop(bigSep Finset.univ (waited m b c) ∗ slPts b c c (recvV m b c))
    ⊢ iprop(recvPos b c ∗ bufPts b c (recvV m b c)) := by
  unfold waited recvPos
  rw [bigSep_sep', rb_pieces]
  iintro ⟨⟨H1, H2⟩, H3⟩
  isplitl [H1]; · iexact H1
  isplitl [H3] <;> iassumption

/-- and the whole receive buffer after them. -/
theorem after_wait1 : iprop(A ∗ B ∗ bigSep (todo 31) (waitRes false c) ∗ bigSep (taken 31) (waited m false c)
      ∗ (slPts false c c (recv1V m c) ∗ done2 m c ∗ S ∗ R))
    ⊢ iprop(bufPts false c (recv1V m c) ∗ R ∗ (A ∗ B ∗ (recvPos false c ∗ done2 m c) ∗ S)) := by
  rw [todo_last, taken_last]
  iintro ⟨H1, H2, -, H3, H4, H5, H6, H7⟩
  ihave H := (joined m c false) $$ [H3 H4]
  · isplitl [H3]; · iexact H3
    iexact H4
  icases H with ⟨H3, H4⟩
  isplitl [H4]; · iexact H4
  isplitl [H7]; · iexact H7
  isplitl [H1]; · iexact H1
  isplitl [H2]; · iexact H2
  isplitl [H3 H5]
  · isplitl [H3] <;> iassumption
  iexact H6

theorem before_reduce : iprop(P ∗ (S ∗ R) ∗ (A ∗ B ∗ D)) ⊢ iprop(S ∗ P ∗ (A ∗ B ∗ D ∗ R)) := by
  iintro ⟨H1, ⟨H2, H3⟩, H4, H5, H6⟩
  isplitl [H2]; · iexact H2
  isplitl [H1]; · iexact H1
  isplitl [H4]; · iexact H4
  isplitl [H5]; · iexact H5
  isplitl [H6] <;> iassumption

/-- The reduced rows computed: every transfer of the second exchange has what it takes. -/
theorem before_put2 : iprop(rbPts c fullShare (rbufV m c) ∗ bufPts false c (recv1V m c)
      ∗ (A ∗ B ∗ ((recvPos false c ∗ done2 m c) ∗ slots2 c) ∗ (bigSep Finset.univ (sendRes true c) ∗ R)))
    ⊢ iprop(A ∗ B ∗ bigSep (todo 0) (put2 m c) ∗ bigSep (taken 0) (sent true c) ∗ (rbPts c shOwn (rbufV m c) ∗ done3 m c ∗ R)) := by
  rw [todo_zero, taken_zero, bigSep_empty]
  unfold put2 slots2 done3
  rw [bigSep_sep', bigSep_sep', share_pieces]
  iintro ⟨⟨Ho, Hs⟩, Hb, H1, H2, ⟨⟨Hp, Hd⟩, Hl⟩, Ht, HR⟩
  isplitl [H1]; · iexact H1
  isplitl [H2]; · iexact H2
  isplitl [Ht Hl Hs]
  · isplitl [Ht]; · iexact Ht
    isplitl [Hl] <;> iassumption
  isplitr; · iempintro
  isplitl [Ho]; · iexact Ho
  isplitl [Hb Hp Hd]
  · isplitl [Hb]; · iexact Hb
    isplitl [Hp] <;> iassumption
  iexact HR

theorem after_put2 : iprop(records m K ∗ owing c (OR true c 31) ∗ bigSep (todo 31) (put2 m c) ∗ bigSep (taken 31) (sent true c)
      ∗ (P ∗ done3 m c ∗ (S ∗ R)))
    ⊢ iprop(P ∗ S ∗ (records m K ∗ owing c 0 ∗ done4 m c ∗ R)) := by
  rw [OR_last, todo_last, taken_last]
  unfold done4
  iintro ⟨H1, H2, -, H3, H4, H5, H6, H7⟩
  isplitl [H4]; · iexact H4
  isplitl [H6]; · iexact H6
  isplitl [H1]; · iexact H1
  isplitl [H2]; · iexact H2
  isplitl [H3 H5]
  · isplitl [H3] <;> iassumption
  iexact H7

theorem before_wait2 : iprop(P ∗ S ∗ (A ∗ B ∗ D ∗ (bigSep (todo 0) (waitRes true c) ∗ R)))
    ⊢ iprop(A ∗ B ∗ bigSep (todo 0) (waitRes true c) ∗ bigSep (taken 0) (waited m true c) ∗ (P ∗ (S ∗ D) ∗ R)) := by
  rw [taken_zero, bigSep_empty]
  iintro ⟨H1, H2, H3, H4, H5, H6, H7⟩
  isplitl [H3]; · iexact H3
  isplitl [H4]; · iexact H4
  isplitl [H6]; · iexact H6
  isplitr; · iempintro
  isplitl [H1]; · iexact H1
  isplitl [H2 H5]
  · isplitl [H2] <;> iassumption
  iexact H7

theorem after_wait2 : iprop(A ∗ B ∗ bigSep (todo 31) (waitRes true c) ∗ bigSep (taken 31) (waited m true c)
      ∗ (slPts true c c (recv2V m c) ∗ (rbPts c shOwn (rbufV m c) ∗ done4 m c) ∗ (S ∗ R)))
    ⊢ iprop(bufPts true c (recv2V m c) ∗ S ∗ (A ∗ B ∗ done5 m c ∗ R)) := by
  rw [todo_last, taken_last]
  unfold done5
  iintro ⟨H1, H2, -, H3, H4, ⟨H5, H6⟩, H7, H8⟩
  ihave H := (joined m c true) $$ [H3 H4]
  · isplitl [H3]; · iexact H3
    iexact H4
  icases H with ⟨H3, H4⟩
  isplitl [H4]; · iexact H4
  isplitl [H7]; · iexact H7
  isplitl [H1]; · iexact H1
  isplitl [H2]; · iexact H2
  isplitl [H3 H5 H6]
  · isplitl [H3]; · iexact H3
    isplitl [H5] <;> iassumption
  iexact H8

/-- What is left beside the sends' cells, and what the device ends with. -/
def left (c : Dev nD) : sProp 𝕄 :=
  iprop(outP c (outV m c) ∗ bufPts true c (recv2V m c) ∗ recvPos true c ∗ rbPts c shOwn (rbufV m c) ∗ bufPts false c (recv1V m c)
    ∗ recvPos false c ∗ pbPts c c (accV m c) ∗ done1 m c ∗ selfPos c)

theorem backs (b : Bool) : iprop(bigSep Finset.univ (sent b c) ∗ sendPos b c) ⊢ bigSep Finset.univ (backRes (F := F) b c) := by
  unfold sendPos
  have e : (backRes b c : Fin 31 → sProp 𝕄) = fun o => iprop(atPos ER (sendC b c o) 0 ∅ 0 ∗ sent b c o) := rfl
  rw [e, bigSep_sep']
  iintro ⟨H1, H2⟩
  isplitl [H2] <;> iassumption

theorem before_back1 : iprop(outP c (outV m c) ∗ bufPts true c (recv2V m c) ∗ (A ∗ B ∗ done5 m c ∗ (sendPos false c ∗ sendPos true c ∗ selfPos c)))
    ⊢ iprop(A ∗ B ∗ bigSep (todo 0) (backRes false c) ∗ bigSep (taken 0) (back m false c) ∗ (bigSep (todo 0) (backRes true c) ∗ left m c)) := by
  rw [todo_zero, taken_zero, bigSep_empty]
  unfold done5 done4 done3 done2 left
  iintro ⟨H1, H2, HA, HB, ⟨H3, H4, Hs2, H5, H6, H7, Hs1, H8⟩, Hp1, Hp2, H9⟩
  ihave Hb1 := (backs (F := F) c false) $$ [Hs1 Hp1]
  · isplitl [Hs1] <;> iassumption
  ihave Hb2 := (backs (F := F) c true) $$ [Hs2 Hp2]
  · isplitl [Hs2] <;> iassumption
  isplitl [HA]; · iexact HA
  isplitl [HB]; · iexact HB
  isplitl [Hb1]; · iexact Hb1
  isplitr; · iempintro
  isplitl [Hb2]; · iexact Hb2
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8] <;> iassumption

theorem before_back2 : iprop(A ∗ B ∗ bigSep (todo 31) (backRes false c) ∗ bigSep (taken 31) (back m false c) ∗ (S ∗ R))
    ⊢ iprop(A ∗ B ∗ S ∗ bigSep (taken 0) (back m true c) ∗ (bigSep Finset.univ (back m false c) ∗ R)) := by
  rw [taken_zero, bigSep_empty, taken_last, todo_last]
  iintro ⟨H1, H2, -, H3, H4, H5⟩
  isplitl [H1]; · iexact H1
  isplitl [H2]; · iexact H2
  isplitl [H4]; · iexact H4
  isplitr; · iempintro
  isplitl [H3] <;> iassumption

/-! ## The end: every cell closed -/

/-- The counters of an exchange's cells of device `c`, at zero. -/
def zeros (b : Bool) (c : Dev nD) : sProp 𝕄 :=
  iprop((bigSep Finset.univ fun o => semVal (sendC b c o) 0) ∗ bigSep Finset.univ fun s => semVal (recvC b c s) 0)

/-- What the device ends with: its scratch buffers, and its own counters and its barrier's at zero. -/
def ended (c : Dev nD) : sProp 𝕄 :=
  iprop((∃ f, pbP c f) ∗ (∃ f, rbPts c fullShare f) ∗ (∃ f, bufPts false c f) ∗ (∃ f, bufPts true c f)
    ∗ zeros false c ∗ zeros true c ∗ semVal (barC c) 0)

theorem close_sends (b : Bool) : iprop(records m K ∗ bigSep Finset.univ fun o => atPos ER (sendC b c o) 1 ∅ 0)
    ⊢ (|={Set.univ}=> bigSep Finset.univ fun o => semVal (sendC b c o) 0 : sProp 𝕄) := by
  refine BI.Entails.trans ?_ (Rounds.cells_close ER (Rd m) Finset.univ (fun o => sendC b c o) (fun o => K (c, .inr (b, .inl o)))
    (fun _ _ => Set.mem_univ _) (fun _ _ h => h) (fun _ => 1) (fun o _ => duties_later m _))
  exact Transfers.bigSep_mono_pers Finset.univ (records m K) _ _ fun o _ => sep_mono_left (inv_send m K b c o)

theorem close_recvs (b : Bool) : iprop(records m K ∗ recvPos b c ∗ atPos ER (recvC b c c) 0 ∅ 0)
    ⊢ (|={Set.univ}=> bigSep Finset.univ fun s => semVal (recvC b c s) 0 : sProp 𝕄) := by
  rw [around c]
  unfold recvPos
  iintro ⟨#Hr, Hp, Hs⟩
  imod (show iprop(records m K ∗ bigSep Finset.univ fun o => atPos ER (recvC b c (peer c o)) 1 ∅ 0)
      ⊢ (|={Set.univ}=> bigSep Finset.univ fun o => semVal (recvC b c (peer c o)) 0 : sProp 𝕄) from
    BI.Entails.trans (Transfers.bigSep_mono_pers Finset.univ (records m K) _ _ fun o _ => sep_mono_left (inv_recv m K b c (peer c o)))
      (Rounds.cells_close ER (Rd m) Finset.univ (fun o => recvC b c (peer c o)) (fun o => K (c, .inr (b, .inr (peer c o))))
        (fun _ _ => Set.mem_univ _) (fun _ _ h => h) (fun _ => 1) (fun o _ => duties_later m _))) $$ [Hp] with Hz
  · isplitr; · iexact Hr
    iexact Hp
  imod (Rounds.cell_close ER (Rd m) (Set.mem_univ (K (c, .inr (b, .inr c)))) (fun h => h) (R := 0) (duties_self m b c)) $$ [Hs] with Hzs
  · isplitr; · iapply (inv_recv m K b c c); iexact Hr
    iexact Hs
  imodintro
  isplitl [Hzs] <;> iassumption

theorem at_end : iprop(records m K ∗ owing c 0 ∗ bigSep (todo 31) (backRes true c) ∗ bigSep (taken 31) (back m true c)
      ∗ (bigSep Finset.univ (back m false c) ∗ left m c))
    ⊢ (|={Set.univ}=> iprop(owing c 0 ∗ ended c ∗ ops m c ∗ outP c (outV m c)) : sProp 𝕄) := by
  rw [todo_last, taken_last]
  unfold back left done1 selfPos
  rw [bigSep_sep', bigSep_sep']
  iintro ⟨#Hr, Ho, -, ⟨Hp2, Hv2⟩, ⟨Hp1, Hv1⟩, Hout, Hb2, Hq2, Hrb, Hb1, Hq1, Hpb, ⟨Hbar, Hops⟩, Hs1, Hs2⟩
  imod (close_sends m K c false) $$ [Hp1] with Hz1
  · isplitr; · iexact Hr
    iexact Hp1
  imod (close_sends m K c true) $$ [Hp2] with Hz2
  · isplitr; · iexact Hr
    iexact Hp2
  imod (close_recvs m K c false) $$ [Hq1 Hs1] with Hy1
  · isplitr; · iexact Hr
    isplitl [Hq1] <;> iassumption
  imod (close_recvs m K c true) $$ [Hq2 Hs2] with Hy2
  · isplitr; · iexact Hr
    isplitl [Hq2] <;> iassumption
  imod (Rounds.cell_close ER (Rd m) (Set.mem_univ (K (c, .inl ()))) (fun h => h) (R := 1) (duties_later m (barC c))) $$ [Hbar] with Hyb
  · isplitr; · iapply (inv_bar m K c); iexact Hr
    iexact Hbar
  imodintro
  isplitl [Ho]; · iexact Ho
  unfold ended zeros
  isplitl [Hpb Hv1 Hrb Hv2 Hb1 Hb2 Hz1 Hz2 Hy1 Hy2 Hyb]
  · isplitl [Hpb Hv1]
    · iexists (accV m c); unfold pbP; rw [pb_pieces]
      isplitl [Hpb]; · iexact Hpb
      iexact Hv1
    isplitl [Hrb Hv2]
    · iexists (rbufV m c); rw [share_pieces]
      isplitl [Hrb]; · iexact Hrb
      iexact Hv2
    isplitl [Hb1]; · iexists _; iexact Hb1
    isplitl [Hb2]; · iexists _; iexact Hb2
    isplitl [Hz1 Hy1]
    · isplitl [Hz1] <;> iassumption
    isplitl [Hz2 Hy2]
    · isplitl [Hz2] <;> iassumption
    iexact Hyb
  isplitl [Hops] <;> iassumption

end

end Cert.KProof

end
-- ==== Proof.Accesses.lean ====
/-
The body's loads and stores, each over what the device holds when it comes to it.
-/
module

public import proofs.«01_k».proof.Proof.Phases

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Whole buffers and own blocks -/

theorem zero2 : (![0, 0] : Fin 2 → ℕ) = fun _ => 0 := by decide
theorem zero3 : (![0, 0, 0] : Fin 3 → ℕ) = fun _ => 0 := by decide

section
variable (c : Dev nD) {α : Type} {Q : α → sProp (MT nD τ sig Unit (Elt F) ℕ UU ℕ)} {R P : sProp (MT nD τ sig Unit (Elt F) ℕ UU ℕ)}

theorem ex_of {X : Type} {Φ : X → sProp 𝕄} {G : sProp 𝕄} (h : ∀ x, iprop(Φ x ∗ R) ⊢ G) : iprop((∃ x, Φ x) ∗ R) ⊢ G := by
  iintro ⟨⟨%x, H⟩, HR⟩
  iapply (h x)
  isplitl [H]; · iexact H
  iexact HR
theorem ex_in {X : Type} {Φ : X → sProp 𝕄} (x : X) : iprop(Φ x ∗ R) ⊢ iprop((∃ x, Φ x) ∗ R) := by
  iintro ⟨H, HR⟩
  isplitl [H]; · iexists x; iexact H
  iexact HR

/-- A load from a buffer among what is held. -/
theorem load_in {cs : CoreSpace} {s : Shape} {e : EltTy} {mr : Memref sig .tc cs s e} {r : LoadRect s} {hl : mr.view.LoadsAt r}
    {cont : (r.shape.Idx → Elt F e) → Prog (TpuEff nD τ sig (Elt F) Λ₀ .tc) α}
    (S : Finset (Idx (mr.view.loc (c : Thread nD τ)))) (q : PosShare TreeShare) (f : Buf (Elt F) (mr.view.loc (c : Thread nD τ)))
    (hS : mr.view.setOn r.set ⊆ S) (hP : P ⊢ iprop((mr.view.loc (c : Thread nD τ) ↦[S]{q} f) ∗ ((mr.view.loc (c : Thread nD τ) ↦[S]{q} f) -∗ P)))
    {v : r.shape.Idx → Elt F e} (hv : mr.view.readAt (Elt F) r f = v)
    (h : P ⊢ runs c (cont v) Q) : P ⊢ runs c (.op (.load mr r hl) cont) Q := by
  refine hP.trans (load_of S q f hS hv ?_)
  iintro ⟨H, HR⟩
  iapply h
  iapply HR
  iexact H

/-! ## The operands -/

theorem load_x {inb : ∀ a, (![0, 0] : Fin 2 → ℕ) a + S256x128.size a ≤ S256x128.size a} {hl}
    {cont : Vec F S256x128 .bf16 → Prog (TpuEff nD τ sig (Elt F) Λ₀ .tc) α} (h : iprop(ops m c ∗ R) ⊢ runs c (cont (xC m c)) Q) :
    iprop(ops m c ∗ R) ⊢ runs c (.op (.load (Memref.whole cc0_stg0_0 : Memref sig .tc .vmem S256x128 .bf16) (Rect.unit (s := S256x128) ![0, 0] S256x128.size inb).toLoadRect hl) cont) Q := by
  exact load_in c (mr := (Memref.whole cc0_stg0_0 : Memref sig .tc .vmem S256x128 .bf16)) Finset.univ fullShare (xC m c) (Finset.subset_univ _) (ops_x m c) (Memref.readAt_unit_zero (Elt F) cc0_stg0_0 zero2 inb _) h
theorem load_rw {inb : ∀ a, (![0, 0] : Fin 2 → ℕ) a + S128x64.size a ≤ S128x64.size a} {hl}
    {cont : Vec F S128x64 .bf16 → Prog (TpuEff nD τ sig (Elt F) Λ₀ .tc) α} (h : iprop(ops m c ∗ R) ⊢ runs c (cont (rwC m c)) Q) :
    iprop(ops m c ∗ R) ⊢ runs c (.op (.load (Memref.whole cc0_stg1_0 : Memref sig .tc .vmem S128x64 .bf16) (Rect.unit (s := S128x64) ![0, 0] S128x64.size inb).toLoadRect hl) cont) Q := by
  exact load_in c (mr := (Memref.whole cc0_stg1_0 : Memref sig .tc .vmem S128x64 .bf16)) Finset.univ fullShare (rwC m c) (Finset.subset_univ _) (ops_rw m c) (Memref.readAt_unit_zero (Elt F) cc0_stg1_0 zero2 inb _) h
theorem load_col0 {inb : ∀ a, (![0, 0] : Fin 2 → ℕ) a + S256x1.size a ≤ S256x2.size a} {hl}
    {cont : Vec F S256x1 .i32 → Prog (TpuEff nD τ sig (Elt F) Λ₀ .tc) α} (h : iprop(ops m c ∗ R) ⊢ runs c (cont (col0 (ixC m c))) Q) :
    iprop(ops m c ∗ R) ⊢ runs c (.op (.load (Memref.whole cc0_stg2_0 : Memref sig .tc .vmem S256x2 .i32) (Rect.unit (s := S256x2) ![0, 0] S256x1.size inb).toLoadRect hl) cont) Q := by
  exact load_in c (mr := (Memref.whole cc0_stg2_0 : Memref sig .tc .vmem S256x2 .i32)) Finset.univ fullShare (ixC m c) (Finset.subset_univ _) (ops_ix m c) (rfl) h
theorem load_col1 {inb : ∀ a, (![0, 1] : Fin 2 → ℕ) a + S256x1.size a ≤ S256x2.size a} {hl}
    {cont : Vec F S256x1 .i32 → Prog (TpuEff nD τ sig (Elt F) Λ₀ .tc) α} (h : iprop(ops m c ∗ R) ⊢ runs c (cont (col1 (ixC m c))) Q) :
    iprop(ops m c ∗ R) ⊢ runs c (.op (.load (Memref.whole cc0_stg2_0 : Memref sig .tc .vmem S256x2 .i32) (Rect.unit (s := S256x2) ![0, 1] S256x1.size inb).toLoadRect hl) cont) Q := by
  exact load_in c (mr := (Memref.whole cc0_stg2_0 : Memref sig .tc .vmem S256x2 .i32)) Finset.univ fullShare (ixC m c) (Finset.subset_univ _) (ops_ix m c) (rfl) h
theorem load_exp0 {inb : ∀ a, (![0, 0, 0] : Fin 3 → ℕ) a + S1x128x256.size a ≤ S2x128x256.size a} {hl}
    {cont : Vec F S1x128x256 .bf16 → Prog (TpuEff nD τ sig (Elt F) Λ₀ .tc) α} (h : iprop(ops m c ∗ R) ⊢ runs c (cont (exp0 (ewC m c))) Q) :
    iprop(ops m c ∗ R) ⊢ runs c (.op (.load (Memref.whole cc0_stg3_0 : Memref sig .tc .vmem S2x128x256 .bf16) (Rect.unit (s := S2x128x256) ![0, 0, 0] S1x128x256.size inb).toLoadRect hl) cont) Q := by
  exact load_in c (mr := (Memref.whole cc0_stg3_0 : Memref sig .tc .vmem S2x128x256 .bf16)) Finset.univ fullShare (ewC m c) (Finset.subset_univ _) (ops_ew m c) (rfl) h
theorem load_exp1 {inb : ∀ a, (![1, 0, 0] : Fin 3 → ℕ) a + S1x128x256.size a ≤ S2x128x256.size a} {hl}
    {cont : Vec F S1x128x256 .bf16 → Prog (TpuEff nD τ sig (Elt F) Λ₀ .tc) α} (h : iprop(ops m c ∗ R) ⊢ runs c (cont (exp1 (ewC m c))) Q) :
    iprop(ops m c ∗ R) ⊢ runs c (.op (.load (Memref.whole cc0_stg3_0 : Memref sig .tc .vmem S2x128x256 .bf16) (Rect.unit (s := S2x128x256) ![1, 0, 0] S1x128x256.size inb).toLoadRect hl) cont) Q := by
  exact load_in c (mr := (Memref.whole cc0_stg3_0 : Memref sig .tc .vmem S2x128x256 .bf16)) Finset.univ fullShare (ewC m c) (Finset.subset_univ _) (ops_ew m c) (rfl) h

/-! ## Buffers loaded and then stored whole -/

theorem load_part {inb : ∀ a, (![0, 0] : Fin 2 → ℕ) a + S256x256.size a ≤ S256x256.size a} {hl}
    {cont : Vec F S256x256 .bf16 → Prog (TpuEff nD τ sig (Elt F) Λ₀ .tc) α} (h : ∀ v, iprop((∃ f, pbP c f) ∗ R) ⊢ runs c (cont v) Q) :
    iprop((∃ f, pbP c f) ∗ R) ⊢ runs c (.op (.load (Memref.whole cc0_scratch0 : Memref sig .tc .vmem S256x256 .bf16) (Rect.unit (s := S256x256) ![0, 0] S256x256.size inb).toLoadRect hl) cont) Q := by
  refine ex_of fun f => ?_
  exact load_of (mr := (Memref.whole cc0_scratch0 : Memref sig .tc .vmem S256x256 .bf16)) Finset.univ fullShare f (Finset.subset_univ _) rfl
    ((ex_in (Φ := fun f => pbP c f) f).trans (h _))
theorem store_part {inb : ∀ a, (![0, 0] : Fin 2 → ℕ) a + S256x256.size a ≤ S256x256.size a} {hx hm} {w : Vec F S256x256 .bf16}
    {cont : PUnit → Prog (TpuEff nD τ sig (Elt F) Λ₀ .tc) α} (h : iprop(pbP c w ∗ R) ⊢ runs c (cont ⟨⟩) Q) :
    iprop((∃ f, pbP c f) ∗ R) ⊢ runs c (.op (.store (Memref.whole cc0_scratch0 : Memref sig .tc .vmem S256x256 .bf16) (Rect.unit (s := S256x256) ![0, 0] S256x256.size inb) w Finset.univ hx hm) cont) Q := by
  refine ex_of fun f => ?_
  have e := Memref.write_access_unit_zero_univ (Elt F) cc0_scratch0 zero2 inb f w
  exact store_of (mr := (Memref.whole cc0_scratch0 : Memref sig .tc .vmem S256x256 .bf16)) (r := Rect.unit (s := S256x256) ![0, 0] S256x256.size inb) Finset.univ f w
    (Finset.subset_univ _) (fun i _ => congrFun e i) h
theorem load_rows {inb : ∀ a, (![0, 0] : Fin 2 → ℕ) a + S8x256.size a ≤ S8x256.size a} {hl}
    {cont : Vec F S8x256 .bf16 → Prog (TpuEff nD τ sig (Elt F) Λ₀ .tc) α} (h : ∀ v, iprop((∃ f, rbPts c fullShare f) ∗ R) ⊢ runs c (cont v) Q) :
    iprop((∃ f, rbPts c fullShare f) ∗ R) ⊢ runs c (.op (.load (Memref.whole cc0_scratch1 : Memref sig .tc .vmem S8x256 .bf16) (Rect.unit (s := S8x256) ![0, 0] S8x256.size inb).toLoadRect hl) cont) Q := by
  refine ex_of fun f => ?_
  exact load_of (mr := (Memref.whole cc0_scratch1 : Memref sig .tc .vmem S8x256 .bf16)) Finset.univ fullShare f (Finset.subset_univ _) rfl
    ((ex_in (Φ := fun f => rbPts c fullShare f) f).trans (h _))
theorem store_rows {inb : ∀ a, (![0, 0] : Fin 2 → ℕ) a + S8x256.size a ≤ S8x256.size a} {hx hm} {w : Vec F S8x256 .bf16}
    {cont : PUnit → Prog (TpuEff nD τ sig (Elt F) Λ₀ .tc) α} (h : iprop(rbPts c fullShare w ∗ R) ⊢ runs c (cont ⟨⟩) Q) :
    iprop((∃ f, rbPts c fullShare f) ∗ R) ⊢ runs c (.op (.store (Memref.whole cc0_scratch1 : Memref sig .tc .vmem S8x256 .bf16) (Rect.unit (s := S8x256) ![0, 0] S8x256.size inb) w Finset.univ hx hm) cont) Q := by
  refine ex_of fun f => ?_
  have e := Memref.write_access_unit_zero_univ (Elt F) cc0_scratch1 zero2 inb f w
  exact store_of (mr := (Memref.whole cc0_scratch1 : Memref sig .tc .vmem S8x256 .bf16)) (r := Rect.unit (s := S8x256) ![0, 0] S8x256.size inb) Finset.univ f w
    (Finset.subset_univ _) (fun i _ => congrFun e i) h
theorem load_out {inb : ∀ a, (![0, 0] : Fin 2 → ℕ) a + S256x256.size a ≤ S256x256.size a} {hl}
    {cont : Vec F S256x256 .f32 → Prog (TpuEff nD τ sig (Elt F) Λ₀ .tc) α} (h : ∀ v, iprop((∃ f, outP c f) ∗ R) ⊢ runs c (cont v) Q) :
    iprop((∃ f, outP c f) ∗ R) ⊢ runs c (.op (.load (Memref.whole cc0_stg4_0 : Memref sig .tc .vmem S256x256 .f32) (Rect.unit (s := S256x256) ![0, 0] S256x256.size inb).toLoadRect hl) cont) Q := by
  refine ex_of fun f => ?_
  exact load_of (mr := (Memref.whole cc0_stg4_0 : Memref sig .tc .vmem S256x256 .f32)) Finset.univ fullShare f (Finset.subset_univ _) rfl
    ((ex_in (Φ := fun f => outP c f) f).trans (h _))
theorem store_out {inb : ∀ a, (![0, 0] : Fin 2 → ℕ) a + S256x256.size a ≤ S256x256.size a} {hx hm} {w : Vec F S256x256 .f32}
    {cont : PUnit → Prog (TpuEff nD τ sig (Elt F) Λ₀ .tc) α} (h : iprop(outP c w ∗ R) ⊢ runs c (cont ⟨⟩) Q) :
    iprop((∃ f, outP c f) ∗ R) ⊢ runs c (.op (.store (Memref.whole cc0_stg4_0 : Memref sig .tc .vmem S256x256 .f32) (Rect.unit (s := S256x256) ![0, 0] S256x256.size inb) w Finset.univ hx hm) cont) Q := by
  refine ex_of fun f => ?_
  have e := Memref.write_access_unit_zero_univ (Elt F) cc0_stg4_0 zero2 inb f w
  exact store_of (mr := (Memref.whole cc0_stg4_0 : Memref sig .tc .vmem S256x256 .f32)) (r := Rect.unit (s := S256x256) ![0, 0] S256x256.size inb) Finset.univ f w
    (Finset.subset_univ _) (fun i _ => congrFun e i) h

/-! ## The receive buffers and the reduced rows read back -/

theorem load_recv1 (f : S32x8x256.Idx → Elt F .bf16) {inb : ∀ a, (![0, 0, 0] : Fin 3 → ℕ) a + S32x8x256.size a ≤ S32x8x256.size a} {hl}
    {cont : Vec F S32x8x256 .bf16 → Prog (TpuEff nD τ sig (Elt F) Λ₀ .tc) α} (h : iprop(bufPts false c f ∗ R) ⊢ runs c (cont f) Q) :
    iprop(bufPts false c f ∗ R) ⊢ runs c (.op (.load (Memref.whole cc0_scratch2 : Memref sig .tc .vmem S32x8x256 .bf16) (Rect.unit (s := S32x8x256) ![0, 0, 0] S32x8x256.size inb).toLoadRect hl) cont) Q :=
  load_of (mr := (Memref.whole cc0_scratch2 : Memref sig .tc .vmem S32x8x256 .bf16)) Finset.univ fullShare f (Finset.subset_univ _)
    (Memref.readAt_unit_zero (Elt F) cc0_scratch2 zero3 inb f) h
theorem load_recv2 (f : S32x8x256.Idx → Elt F .bf16) {inb : ∀ a, (![0, 0, 0] : Fin 3 → ℕ) a + S32x8x256.size a ≤ S32x8x256.size a} {hl}
    {cont : Vec F S32x8x256 .bf16 → Prog (TpuEff nD τ sig (Elt F) Λ₀ .tc) α} (h : iprop(bufPts true c f ∗ R) ⊢ runs c (cont f) Q) :
    iprop(bufPts true c f ∗ R) ⊢ runs c (.op (.load (Memref.whole cc0_scratch3 : Memref sig .tc .vmem S32x8x256 .bf16) (Rect.unit (s := S32x8x256) ![0, 0, 0] S32x8x256.size inb).toLoadRect hl) cont) Q :=
  load_of (mr := (Memref.whole cc0_scratch3 : Memref sig .tc .vmem S32x8x256 .bf16)) Finset.univ fullShare f (Finset.subset_univ _)
    (Memref.readAt_unit_zero (Elt F) cc0_scratch3 zero3 inb f) h
theorem load_own_rows (f : S8x256.Idx → Elt F .bf16) {inb : ∀ a, (![0, 0] : Fin 2 → ℕ) a + S8x256.size a ≤ S8x256.size a} {hl}
    {cont : Vec F S8x256 .bf16 → Prog (TpuEff nD τ sig (Elt F) Λ₀ .tc) α} (h : iprop(rbPts c shOwn f ∗ R) ⊢ runs c (cont f) Q) :
    iprop(rbPts c shOwn f ∗ R) ⊢ runs c (.op (.load (Memref.whole cc0_scratch1 : Memref sig .tc .vmem S8x256 .bf16) (Rect.unit (s := S8x256) ![0, 0] S8x256.size inb).toLoadRect hl) cont) Q :=
  load_of (mr := (Memref.whole cc0_scratch1 : Memref sig .tc .vmem S8x256 .bf16)) Finset.univ shOwn f (Finset.subset_univ _)
    (Memref.readAt_unit_zero (Elt F) cc0_scratch1 zero2 inb f) h

/-! ## The device's own block and slots -/

theorem whole_reads (ref : Ref sig .tc) (X : Finset ref.ty.shape.Idx) : (View.whole ref).setOn X = X := Finset.map_refl
theorem part_reads {offs : Fin 2 → ℕ} (inbs : ∀ a, offs a + S8x256.size a ≤ S256x256.size a) (c : Dev nD) (hs : offs = ![8 * c.val, 0]) :
    (Memref.whole cc0_scratch0 : Memref sig .tc .vmem S256x256 .bf16).view.setOn (Rect.unit (s := S256x256) offs S8x256.size inbs).toLoadRect.set ⊆ blk c := by
  rw [whole_reads]
  exact (rect_blk inbs c hs).subset
theorem load_own {offs : Fin 2 → ℕ} {inbs : ∀ a, offs a + S8x256.size a ≤ S256x256.size a} (hs : offs = ![8 * c.val, 0]) {hl}
    {cont : Vec F S8x256 .bf16 → Prog (TpuEff nD τ sig (Elt F) Λ₀ .tc) α}
    (h : iprop(pbPts c c (accV m c) ∗ R) ⊢ runs c (cont ((Memref.whole cc0_scratch0 : Memref sig .tc .vmem S256x256 .bf16).view.readAt (Elt F)
          (Rect.unit (s := S256x256) offs S8x256.size inbs).toLoadRect (accV m c))) Q) :
    iprop(pbPts c c (accV m c) ∗ R) ⊢ runs c (.op (.load (Memref.whole cc0_scratch0 : Memref sig .tc .vmem S256x256 .bf16)
      (Rect.unit (s := S256x256) offs S8x256.size inbs).toLoadRect hl) cont) Q :=
  load_of (mr := (Memref.whole cc0_scratch0 : Memref sig .tc .vmem S256x256 .bf16)) (blk c) fullShare (accV m c)
    (part_reads inbs c hs) rfl h
theorem slot_reads1 {off : Fin 3 → ℕ} (inb : ∀ a, off a + S1x8x256.size a ≤ S32x8x256.size a) (c : Dev nD) (h : off = ![c.val, 0, 0]) :
    (Memref.whole cc0_scratch2 : Memref sig .tc .vmem S32x8x256 .bf16).view.setOn (Rect.unit (s := S32x8x256) off S1x8x256.size inb).toLoadRect.set ⊆ slot c := by
  rw [whole_reads]
  exact (rect_slot inb c h).subset
theorem slot_writes1 {off : Fin 3 → ℕ} (inb : ∀ a, off a + S1x8x256.size a ≤ S32x8x256.size a) (c : Dev nD) (h : off = ![c.val, 0, 0]) :
    ((Memref.whole cc0_scratch2 : Memref sig .tc .vmem S32x8x256 .bf16).access (Rect.unit (s := S32x8x256) off S1x8x256.size inb)).setOn Finset.univ ⊆ slot c :=
  ((View.set_slice_whole cc0_scratch2 (Rect.unit (s := S32x8x256) off S1x8x256.size inb)).trans (rect_slot inb c h)).subset
theorem slot_reads2 {off : Fin 3 → ℕ} (inb : ∀ a, off a + S1x8x256.size a ≤ S32x8x256.size a) (c : Dev nD) (h : off = ![c.val, 0, 0]) :
    (Memref.whole cc0_scratch3 : Memref sig .tc .vmem S32x8x256 .bf16).view.setOn (Rect.unit (s := S32x8x256) off S1x8x256.size inb).toLoadRect.set ⊆ slot c := by
  rw [whole_reads]
  exact (rect_slot inb c h).subset
theorem slot_writes2 {off : Fin 3 → ℕ} (inb : ∀ a, off a + S1x8x256.size a ≤ S32x8x256.size a) (c : Dev nD) (h : off = ![c.val, 0, 0]) :
    ((Memref.whole cc0_scratch3 : Memref sig .tc .vmem S32x8x256 .bf16).access (Rect.unit (s := S32x8x256) off S1x8x256.size inb)).setOn Finset.univ ⊆ slot c :=
  ((View.set_slice_whole cc0_scratch3 (Rect.unit (s := S32x8x256) off S1x8x256.size inb)).trans (rect_slot inb c h)).subset
theorem load_slot1 {off : Fin 3 → ℕ} {inb : ∀ a, off a + S1x8x256.size a ≤ S32x8x256.size a} (ho : off = ![c.val, 0, 0]) {hl}
    {cont : Vec F S1x8x256 .bf16 → Prog (TpuEff nD τ sig (Elt F) Λ₀ .tc) α} (h : ∀ v, iprop((∃ f, slPts false c c f) ∗ R) ⊢ runs c (cont v) Q) :
    iprop((∃ f, slPts false c c f) ∗ R) ⊢ runs c (.op (.load (Memref.whole cc0_scratch2 : Memref sig .tc .vmem S32x8x256 .bf16)
      (Rect.unit (s := S32x8x256) off S1x8x256.size inb).toLoadRect hl) cont) Q := by
  refine ex_of fun f => ?_
  exact load_of (mr := (Memref.whole cc0_scratch2 : Memref sig .tc .vmem S32x8x256 .bf16)) (slot c) fullShare f (slot_reads1 inb c ho) rfl
    ((ex_in (Φ := fun f => slPts false c c f) f).trans (h _))
theorem load_slot2 {off : Fin 3 → ℕ} {inb : ∀ a, off a + S1x8x256.size a ≤ S32x8x256.size a} (ho : off = ![c.val, 0, 0]) {hl}
    {cont : Vec F S1x8x256 .bf16 → Prog (TpuEff nD τ sig (Elt F) Λ₀ .tc) α} (h : ∀ v, iprop((∃ f, slPts true c c f) ∗ R) ⊢ runs c (cont v) Q) :
    iprop((∃ f, slPts true c c f) ∗ R) ⊢ runs c (.op (.load (Memref.whole cc0_scratch3 : Memref sig .tc .vmem S32x8x256 .bf16)
      (Rect.unit (s := S32x8x256) off S1x8x256.size inb).toLoadRect hl) cont) Q := by
  refine ex_of fun f => ?_
  exact load_of (mr := (Memref.whole cc0_scratch3 : Memref sig .tc .vmem S32x8x256 .bf16)) (slot c) fullShare f (slot_reads2 inb c ho) rfl
    ((ex_in (Φ := fun f => slPts true c c f) f).trans (h _))
theorem store_slot1 {off : Fin 3 → ℕ} {inb : ∀ a, off a + S1x8x256.size a ≤ S32x8x256.size a} (ho : off = ![c.val, 0, 0])
    {offs : Fin 2 → ℕ} {inbs : ∀ a, offs a + S8x256.size a ≤ S256x256.size a} (hs : offs = ![8 * c.val, 0]) {hx hm}
    {cont : PUnit → Prog (TpuEff nD τ sig (Elt F) Λ₀ .tc) α} (h : iprop(slPts false c c (recv1V m c) ∗ R) ⊢ runs c (cont ⟨⟩) Q) :
    iprop((∃ f, slPts false c c f) ∗ R) ⊢ runs c (.op (.store (Memref.whole cc0_scratch2 : Memref sig .tc .vmem S32x8x256 .bf16)
      (Rect.unit (s := S32x8x256) off S1x8x256.size inb) (k0_pay9 ((Memref.whole cc0_scratch0 : Memref sig .tc .vmem S256x256 .bf16).view.readAt (Elt F)
          (Rect.unit (s := S256x256) offs S8x256.size inbs).toLoadRect (accV m c))) Finset.univ hx hm) cont) Q := by
  refine ex_of fun f => ?_
  exact store_of (mr := (Memref.whole cc0_scratch2 : Memref sig .tc .vmem S32x8x256 .bf16)) (r := Rect.unit (s := S32x8x256) off S1x8x256.size inb) (slot c) f (recv1V m c)
    (slot_writes1 inb c ho) (own_copy1 m c inb inbs ho hs f) h
theorem store_slot2 {off : Fin 3 → ℕ} {inb : ∀ a, off a + S1x8x256.size a ≤ S32x8x256.size a} (ho : off = ![c.val, 0, 0]) {hx hm}
    {cont : PUnit → Prog (TpuEff nD τ sig (Elt F) Λ₀ .tc) α} (h : iprop(slPts true c c (recv2V m c) ∗ R) ⊢ runs c (cont ⟨⟩) Q) :
    iprop((∃ f, slPts true c c f) ∗ R) ⊢ runs c (.op (.store (Memref.whole cc0_scratch3 : Memref sig .tc .vmem S32x8x256 .bf16)
      (Rect.unit (s := S32x8x256) off S1x8x256.size inb) (k0_pay11 (rbufV m c)) Finset.univ hx hm) cont) Q := by
  refine ex_of fun f => ?_
  exact store_of (mr := (Memref.whole cc0_scratch3 : Memref sig .tc .vmem S32x8x256 .bf16)) (r := Rect.unit (s := S32x8x256) off S1x8x256.size inb) (slot c) f (recv2V m c)
    (slot_writes2 inb c ho) (own_copy2 m c inb ho f) h

end

end Cert.KProof

end
-- ==== Proof.Body.lean ====
/-
The body of the kernel on one device, run from its first instruction to its last.
-/
module

public import proofs.«01_k».proof.Proof.Accesses

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

theorem off2_eq (c : Dev nD) : k0_off2 c = ![c.val, 0, 0] := by revert c; decide +kernel
theorem off4_eq (c : Dev nD) : k0_off4 c = ![8 * c.val, 0] := by revert c; decide +kernel
theorem off5_eq (c : Dev nD) : k0_off5 c = ![c.val, 0, 0] := by revert c; decide +kernel

/-- What is owed while the first exchange is waited for lies above it, -/
theorem owed1 (c : Dev nD) : ∀ g u, 0 < OR true c 0 g u → g.1.2 = .tc ∧ lvS (csem (.inr (false, .inr c))) < lvS g.2 := fun g u h => by
  have := OR1_lv h
  rw [lv_recv0]
  exact ⟨this.1, by omega⟩
/-- and nothing is owed while the second is. -/
theorem owed2 (c : Dev nD) : ∀ g u, 0 < (0 : Tal) g u → g.1.2 = .tc ∧ lvS (csem (.inr (true, .inr c))) < lvS g.2 := fun g u h =>
  absurd h (lt_irrefl _)

theorem step_dev {c : Dev nD} {α : Type} {cont : Dev nD → Prog (TpuEff nD τ sig (Elt F) Λ₀ .tc) α} {Q : α → sProp 𝕄} {P : sProp 𝕄}
    (h : P ⊢ runs c (cont c) Q) : P ⊢ runs c (.op .deviceId cont) Q := by
  unfold runs; rw [wp_deviceId]; exact h

theorem ret_done {c : Dev nD} {α : Type} {a : α} {P : sProp 𝕄} {Q : α → sProp 𝕄} (h : P ⊢ Q a) : (|={Set.univ}=> P : sProp 𝕄) ⊢ runs c (.ret a) Q :=
  ret_upd (fupd_mono h)

/-- The body over the buffers the launch stages and allocates. -/
abbrev body : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7

set_option maxHeartbeats 0 in
/-- A device that starts with what the launch gives it ends with the result in its staging buffer, owing nothing. -/
theorem run_body (K : Dev nD × Cel → ℕ) (c : Dev nD) {Q : PUnit → sProp 𝕄}
    (h : iprop(owing c 0 ∗ ended c ∗ ops m c ∗ outP c (outV m c)) ⊢ Q ⟨⟩) :
    iprop(records m K ∗ owing c (O₀ c) ∗ bigSep (todo 0) (sigRes c) ∗ held m c) ⊢ runs c body Q := by
  unfold body O₀ held
  rw [cc0_body_eq_skeleton]
  unfold cc0_body_skel
  simp only [k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel,
    k0_part9_eq_skeleton, k0_part9_skel, k0_part10_eq_skeleton, k0_part10_skel, k0_part11_eq_skeleton, k0_part11_skel, k0_part12_eq_skeleton,
    k0_part12_skel, k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel, k0_part19_eq_skeleton,
    k0_part19_skel, k0_part20_eq_skeleton, k0_part20_skel, k0_part21_eq_skeleton, k0_part21_skel, k0_part22_eq_skeleton, k0_part22_skel,
    k0_part23_eq_skeleton, k0_part23_skel, k0_part24_eq_skeleton, k0_part24_skel, k0_part25_eq_skeleton, k0_part25_skel, k0_part26_eq_skeleton,
    k0_part26_skel, k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel, k0_part33_eq_skeleton,
    k0_part33_skel, k0_part34_eq_skeleton, k0_part34_skel, k0_part35_eq_skeleton, k0_part35_skel, k0_part36_eq_skeleton, k0_part36_skel,
    k0_part37_eq_skeleton, k0_part37_skel, k0_part38_eq_skeleton, k0_part38_skel, k0_part39_eq_skeleton, k0_part39_skel, k0_part40_eq_skeleton,
    k0_part40_skel, k0_part41_eq_skeleton, k0_part41_skel, k0_part42_eq_skeleton, k0_part42_skel, k0_part43_eq_skeleton, k0_part43_skel,
    k0_part44_eq_skeleton, k0_part44_skel, k0_part45_eq_skeleton, k0_part45_skel, k0_part46_eq_skeleton, k0_part46_skel, k0_part47_eq_skeleton,
    k0_part47_skel, k0_part48_eq_skeleton, k0_part48_skel, k0_part49_eq_skeleton, k0_part49_skel, k0_part50_eq_skeleton, k0_part50_skel,
    k0_part51_eq_skeleton, k0_part51_skel, k0_part52_eq_skeleton, k0_part52_skel, k0_part53_eq_skeleton, k0_part53_skel, k0_part54_eq_skeleton,
    k0_part54_skel, k0_part55_eq_skeleton, k0_part55_skel, k0_part56_eq_skeleton, k0_part56_skel, k0_part57_eq_skeleton, k0_part57_skel,
    semSignalWord, semWaitWord, Prog.lift, Prog.bind_op, Prog.bind_ret, Prog.pure_eq_ret]
  refine step_dev ?_
  -- every peer is told that this device has entered
  iterate 31 (refine step_sig m K c (by decide) ?hn (by decide) ?_; (case hn => clear Q h; revert c; decide +kernel))
  -- the operands, and this device's part of the result
  refine (after_signals m K c).trans ?_
  refine load_x m c ?_
  refine load_rw m c ?_
  refine load_col0 m c ?_
  refine load_col1 m c ?_
  refine load_exp0 m c ?_
  refine load_exp1 m c ?_
  refine (after_operands m c).trans ?_
  refine load_part c fun _ => ?_
  refine store_part c ?_
  refine before_barrier.trans ?_
  refine step_bar m K c (by decide) ?_
  -- the first exchange
  refine (before_put1 m K c).trans ?_
  iterate 31 (refine step_put1 m K c (by decide) ?hn (off2_eq c) ?hos (by decide) ?hR ?_
              (case hn => clear Q h; revert c; decide +kernel)
              (case hos => clear Q h; revert c; decide +kernel)
              (case hR => clear Q h; revert c; decide +kernel))
  refine (after_put1 m K c).trans ?_
  refine load_own m c (off4_eq c) ?_
  refine (before_copy1 m c).trans ?_
  refine load_slot1 c (off5_eq c) fun _ => ?_
  refine store_slot1 m c (off5_eq c) (off4_eq c) ?_
  refine (before_wait1 m c).trans ?_
  iterate 31 (refine step_wait m K c false (OR true c 0) (owed1 c) ?hk ?hR ?hN ?_
              (case hk => decide)
              (case hR => clear Q h; revert c; decide +kernel)
              (case hN => rfl))
  -- the rows this device reduces
  refine (after_wait1 m c).trans ?_
  refine load_recv1 c _ ?_
  refine before_reduce.trans ?_
  refine load_rows c fun _ => ?_
  refine store_rows c ?_
  -- the second exchange
  refine (before_put2 m c).trans ?_
  iterate 31 (refine step_put2 m K c (by decide) ?hn (off2_eq c) (by decide) ?hR ?_
              (case hn => clear Q h; revert c; decide +kernel)
              (case hR => clear Q h; revert c; decide +kernel))
  refine (after_put2 m K c).trans ?_
  refine load_own_rows c _ ?_
  refine swap.trans ?_
  refine load_slot2 c (off5_eq c) fun _ => ?_
  refine store_slot2 m c (off5_eq c) ?_
  refine (before_wait2 m c).trans ?_
  iterate 31 (refine step_wait m K c true 0 (owed2 c) ?hk ?hR ?hN ?_
              (case hk => decide)
              (case hN => rfl)
              (case hR => clear Q h; revert c; decide +kernel))
  -- the result
  refine (after_wait2 m c).trans ?_
  refine load_recv2 c _ ?_
  refine swap.trans ?_
  refine load_out c fun _ => ?_
  refine store_out c ?_
  -- the sends come back
  refine (before_back1 m c).trans ?_
  iterate 31 (refine step_back m K c false ?hk ?hS ?hN ?_
              (case hk => decide)
              (case hS => clear Q h; revert c; decide +kernel)
              (case hN => rfl))
  refine (before_back2 m c).trans ?_
  iterate 31 (refine step_back m K c true ?hk ?hS ?hN ?_
              (case hk => decide)
              (case hS => clear Q h; revert c; decide +kernel)
              (case hN => rfl))
  refine (at_end m K c).trans ?_
  exact ret_done h

end Cert.KProof

end
-- ==== Proof.Setup.lean ====
/-
What the launch deals to the devices: every cell's invariant and position, the tokens of the duties each device pays, and the
credits for what the others owe it.
-/
module

public import proofs.«01_k».proof.Proof.Phases
public import proofs.«01_k».proof.Proof.Gen.KernelIdeal.Launch
public import Idealize.ShloMosaic.Lib.Pipeline.Launch
public import Idealize.ShloMosaic.Lib.Pipeline.Kit

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The cells of a device, listed -/

theorem over_bool (Φ : Bool → sProp 𝕄) : bigSep Finset.univ Φ = iprop(Φ false ∗ Φ true) :=
  bigSep_univ_eq_bigSepL [false, true] (by decide) (by decide) Φ

theorem over_own (Φ : Own → sProp 𝕄) : bigSep Finset.univ Φ
    = iprop(((bigSep Finset.univ fun o => Φ (false, .inl o)) ∗ bigSep Finset.univ fun s => Φ (false, .inr s))
      ∗ ((bigSep Finset.univ fun o => Φ (true, .inl o)) ∗ bigSep Finset.univ fun s => Φ (true, .inr s))) := by
  rw [bigSep_univ_prod, over_bool, bigSep_univ_sum, bigSep_univ_sum]
  rfl

theorem over_cel (Φ : Cel → sProp 𝕄) : bigSep Finset.univ Φ = iprop(Φ (.inl ()) ∗ bigSep Finset.univ fun k => Φ (.inr k)) := by
  rw [bigSep_univ_sum, show (Finset.univ : Finset Unit) = {()} from rfl, bigSep_singleton]
  rfl

/-! ## Tokens: minted to the device that pays -/

abbrev Tok : Type := Fin 5 × Fin 31

def tokCell (c : Dev nD) : Tok → Dev nD × Cel
  | (0, o) => (peer c o, .inl ())
  | (1, o) => (c, .inr (false, .inl o))
  | (2, o) => (peer c o, .inr (false, .inr c))
  | (3, o) => (c, .inr (true, .inl o))
  | (4, o) => (peer c o, .inr (true, .inr c))

theorem tokCell_injective (c : Dev nD) : Function.Injective (tokCell c) := by
  rintro ⟨j, o⟩ ⟨j', o'⟩ h
  fin_cases j <;> fin_cases j' <;> simp only [tokCell, Prod.mk.injEq, Sum.inr.injEq, Sum.inl.injEq, reduceCtorEq, Bool.false_eq_true, Bool.true_eq_false,
    false_and, and_false, true_and, and_true] at h
  all_goals first
    | (obtain rfl := h; rfl)
    | (obtain rfl := peer_injective c h; rfl)

abbrev tokOf (x : Dev nD × Tok) : GSem nD τ sig × ℕ × Dev nD := (kcell (tokCell x.1 x.2), 0, x.1)

theorem tokOf_injective : Function.Injective tokOf := by
  rintro ⟨c, t⟩ ⟨c', t'⟩ h
  obtain rfl : c = c' := congrArg (fun y : GSem nD τ sig × ℕ × Dev nD => y.2.2) h
  have h1 : kcell (tokCell c t) = kcell (tokCell c t') := congrArg Prod.fst h
  rw [tokCell_injective c (kcell_injective h1)]

def ringCells : Finset (GSem nD τ sig) := Finset.univ.map ⟨kcell, kcell_injective⟩
def ringToks : Finset (GSem nD τ sig × ℕ × Dev nD) := Finset.univ.map ⟨tokOf, tokOf_injective⟩

def u₀ : UU := (initOf (Pipeline.cells cfgs cellOf_inj) (Pipeline.launchToks cfgs cellOf_inj), initOf ringCells ringToks)

def toks (c : Dev nD) : sProp 𝕄 := bigSep Finset.univ fun t : Tok => dutyTok ER (kcell (tokCell c t)) 0 c

theorem toks_split (c : Dev nD) : (toks c : sProp 𝕄)
    ⊢ iprop((bigSep Finset.univ fun o => dutyTok ER (barC (peer c o)) 0 c) ∗ bigSep Finset.univ (sendRes false c) ∗ bigSep Finset.univ (sendRes true c)) := by
  unfold toks
  have e (b : Bool) : (sendRes b c : Fin 31 → sProp 𝕄) = fun o => iprop(dutyTok ER (sendC b c o) 0 c ∗ dutyTok ER (recvC b (peer c o) c) 0 c) := rfl
  rw [bigSep_univ_prod, bigSep_univ_eq_bigSepL [(0 : Fin 5), 1, 2, 3, 4] (by decide) (by decide), e, e, bigSep_sep', bigSep_sep']
  show iprop((bigSep Finset.univ fun o => dutyTok ER (barC (peer c o)) 0 c) ∗ (bigSep Finset.univ fun o => dutyTok ER (sendC false c o) 0 c)
    ∗ (bigSep Finset.univ fun o => dutyTok ER (recvC false (peer c o) c) 0 c) ∗ (bigSep Finset.univ fun o => dutyTok ER (sendC true c o) 0 c)
    ∗ bigSep Finset.univ fun o => dutyTok ER (recvC true (peer c o) c) 0 c) ⊢ _
  iintro ⟨H0, H1, H2, H3, H4⟩
  isplitl [H0]; · iexact H0
  isplitl [H1 H2]
  · isplitl [H1] <;> iassumption
  isplitl [H3] <;> iassumption

/-! ## The cells allocated -/

def pos (c : Dev nD) : sProp 𝕄 := bigSep Finset.univ fun k : Cel => atPos ER (kcell (c, k)) 0 ∅ 0

/-- What the launch gives device `c` to begin with, -/
def G (c : Dev nD) : sProp 𝕄 :=
  iprop((bigSep Finset.univ fun k : Cel => roundState ER (Rd m) (kcell (c, k)) 0)
    ∗ (pos c ∗ bigSep Finset.univ fun k : Cel => reached ER (kcell (c, k)) 0) ∗ toks c)
/-- what all devices know of the cells, -/
def book (K : Dev nD × Cel → ℕ) : sProp 𝕄 :=
  iprop((bigSep Finset.univ fun x : Dev nD × Cel => cellInv ER (Rd m) (K x) (kcell x)) ∗ bigSep Finset.univ fun x : Dev nD × Cel => reached ER (kcell x) 0)
instance book_persistent (K : Dev nD × Cel → ℕ) : BI.Persistent (book m K) := by unfold book; infer_instance
/-- and what each has once they are allocated. -/
def G' (c : Dev nD) : sProp 𝕄 := iprop((∃ K, book m K) ∗ pos c ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cel => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (Rd m) ringCells ringToks) $$ HX with ⟨Hst, Hr, Hat, Htok⟩
  imodintro
  ihave Hst := (Entails.of_eq (hX fun g => roundState ER (Rd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G pos; simp only [bigSep_sep']
  isplitl [Hst]; · iexact Hst
  isplitl [Hat Hr]
  · isplitl [Hat] <;> iassumption
  iexact Htok

theorem unscopedSems0_eq (c : Dev nD) : (unscopedSems0 c : sProp 𝕄) = semVal (barC c) 0 := by
  unfold unscopedSems0; rw [bigSep_eq_bigSepL_of_eq [SemLoc.reg barS] (by decide) (by decide)]; rfl

abbrev own0 (c : Dev nD) : sProp 𝕄 := Pipeline.ownSems0 (Ix := Unit) (Name := ℕ) (U := UU) (Lvl := ℕ) (Val := Elt F) (τ := τ) osem c

theorem sems0 (c : Dev nD) : iprop(own0 c ∗ unscopedSems0 c) ⊢ (bigSep Finset.univ fun k : Cel => semVal (kcell (c, k)) 0 : sProp 𝕄) := by
  rw [unscopedSems0_eq, over_cel]
  unfold own0 Pipeline.ownSems0
  iintro ⟨H1, H2⟩
  isplitl [H2]; · iexact H2
  iexact H1

/-- One device's cells get their invariants. -/
theorem core_alloc (c : Dev nD) :
    iprop(own0 c ∗ unscopedSems0 c ∗ G m c)
      ⊢ |={Set.univ}=> iprop((bigSep Finset.univ fun k : Cel => iprop(∃ κ : ℕ, cellInv ER (Rd m) κ (kcell (c, k))))
          ∗ (pos c ∗ bigSep Finset.univ fun k : Cel => reached ER (kcell (c, k)) 0) ∗ toks c) := by
  unfold G
  iintro ⟨Hos, Hus, Hst, Hat, Htok⟩
  ihave Hv := (sems0 (F := F) c) $$ [Hos Hus]
  · isplitl [Hos] <;> iassumption
  imod (show iprop((bigSep Finset.univ fun k : Cel => semVal (kcell (c, k)) 0) ∗ bigSep Finset.univ fun k : Cel => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- All devices' cells together: what they know of one another's. -/
theorem regroup :
    (bigSep Finset.univ fun c : Dev nD => iprop((bigSep Finset.univ fun k : Cel => iprop(∃ κ : ℕ, cellInv ER (Rd m) κ (kcell (c, k))))
          ∗ (pos c ∗ bigSep Finset.univ fun k : Cel => reached ER (kcell (c, k)) 0) ∗ toks c) : sProp 𝕄)
      ⊢ bigSep Finset.univ (G' m) := by
  rw [bigSep_sep', bigSep_sep', bigSep_sep', ← bigSep_univ_prod (fun x : Dev nD × Cel => iprop(∃ κ : ℕ, cellInv ER (Rd m) κ (kcell x))),
    ← bigSep_univ_prod (fun x : Dev nD × Cel => (reached ER (kcell x) 0 : sProp 𝕄))]
  iintro ⟨HI, ⟨Hat, #HR⟩, Htok⟩
  ihave HK := (BI.bigSep_exists_pi Finset.univ (fun (x : Dev nD × Cel) (κ : ℕ) => (cellInv ER (Rd m) κ (kcell x) : sProp 𝕄))) $$ HI
  icases HK with ⟨%K, #HI⟩
  iapply (Transfers.bigSep_mono_pers Finset.univ (book m K) (fun c : Dev nD => iprop(pos c ∗ toks c)) (G' m) fun c _ => by
    unfold G'
    iintro ⟨H1, H2, H3⟩
    isplitl [H1]; · iexists K; iexact H1
    isplitl [H2] <;> iassumption)
  isplitr
  · unfold book; isplitl; · iexact HI
    iexact HR
  rw [bigSep_sep']
  isplitl [Hat] <;> iassumption

theorem glob : (bigSep Finset.univ fun c => iprop(own0 c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem sum_at (f : Fin 31 → Dev nD × Cel) (n : ℕ) (x : Dev nD × Cel) :
    (∑ o ∈ todo 0, (tallyAt (kcell (f o)) () n : Tal)) (kcell x) () = ∑ o, if x = f o then n else 0 := by
  rw [todo_zero, Finset.sum_apply, Finsupp.finset_sum_apply]
  refine Finset.sum_congr rfl fun o _ => ?_
  rw [tallyAt_apply]
  by_cases h : x = f o
  · rw [if_pos h, if_pos ⟨by rw [h], rfl⟩]
  · rw [if_neg h, if_neg fun h' => h (kcell_injective h'.1)]

theorem sum_peers (d c : Dev nD) (n : ℕ) : (∑ o, if c = peer d o then n else 0) = if c = d then 0 else n := by
  have e : (∑ o, if c = peer d o then n else 0) = ∑ p ∈ Finset.univ.erase d, if c = p then n else 0 := by
    rw [others_eq, Finset.sum_map]; rfl
  rw [e, Finset.sum_ite_eq]
  by_cases h : c = d
  · rw [if_pos h, if_neg (by rw [h]; exact Finset.notMem_erase _ _)]
  · rw [if_neg h, if_pos (Finset.mem_erase.mpr ⟨h, Finset.mem_univ _⟩)]

theorem owed_at (d : Dev nD) (x : Dev nD × Cel) : O₀ d (kcell x) ()
    = ((∑ o, if x = (peer d o, .inr (true, .inr d)) then N else 0) + ∑ o, if x = (peer d o, .inr (false, .inr d)) then N else 0)
      + ∑ o, if x = (peer d o, .inl ()) then 1 else 0 := by
  unfold O₀ OX
  rw [Pi.add_apply, Finsupp.add_apply, Pi.add_apply, Finsupp.add_apply]
  exact congrArg₂ (· + ·) (congrArg₂ (· + ·) (sum_at (fun o => (peer d o, .inr (true, .inr d))) N x) (sum_at (fun o => (peer d o, .inr (false, .inr d))) N x))
    (sum_at (fun o => (peer d o, .inl ())) 1 x)

theorem owed_bar (d c : Dev nD) : O₀ d (barC c) () = if c = d then 0 else 1 := by
  refine (owed_at d (c, .inl ())).trans ?_
  rw [Finset.sum_eq_zero fun o _ => if_neg (by simp), Finset.sum_eq_zero fun o _ => if_neg (by simp), ← sum_peers]
  simp

theorem owed_recv (b : Bool) (d c s : Dev nD) (h : s ≠ c) : O₀ d (recvC b c s) () = if s = d then N else 0 := by
  refine (owed_at d (c, .inr (b, .inr s))).trans ?_
  by_cases hd : s = d
  · subst hd
    have e := sum_peers s c N
    rw [if_neg fun h' => h h'.symm] at e
    cases b <;> simp [e]
  · cases b <;> simp [hd]

theorem launch_bar (c : Dev nD) :
    tallyOn (barC c) (launchCredit (Pipeline.owing O₀) 0 (barC c)) = (tallyAt (barC c) () 31 : Tal) := by
  unfold tallyAt; refine congrArg _ (Finsupp.ext fun u => ?_); cases u
  rw [Pipeline.launchCredit_owing, Finsupp.single_eq_same, Finset.sum_congr rfl fun d _ => owed_bar d c]
  revert c; decide

theorem launch_recv (b : Bool) (c s : Dev nD) (h : s ≠ c) :
    tallyOn (recvC b c s) (launchCredit (Pipeline.owing O₀) 0 (recvC b c s)) = (tallyAt (recvC b c s) () N : Tal) := by
  unfold tallyAt; refine congrArg _ (Finsupp.ext fun u => ?_); cases u
  rw [Pipeline.launchCredit_owing, Finsupp.single_eq_same, Finset.sum_congr rfl fun d _ => owed_recv b d c s h, Finset.sum_ite_eq,
    if_pos (Finset.mem_univ _)]

/-- The cells device `c` has credit at. -/
def credAt (c : Dev nD) : Unit ⊕ (Bool × Fin 31) → Cel
  | .inl _ => .inl ()
  | .inr (b, o) => .inr (b, .inr (peer c o))
theorem credAt_injective (c : Dev nD) : Function.Injective fun k => csem (credAt c k) := by
  refine csem_injective.comp ?_
  rintro (⟨⟩ | ⟨b, o⟩) (⟨⟩ | ⟨b', o'⟩) h
  · rfl
  · cases h
  · cases h
  · simp only [credAt, Sum.inr.injEq, Prod.mk.injEq] at h
    rw [h.1, peer_injective c h.2]

def creds (c : Dev nD) : sProp 𝕄 :=
  iprop(cred (tallyAt (barC c) () 31) ∗ (bigSep Finset.univ fun o => cred (tallyAt (recvC false c (peer c o)) () N))
    ∗ bigSep Finset.univ fun o => cred (tallyAt (recvC true c (peer c o)) () N))

theorem creds_intro (c : Dev nD) : (Pipeline.launchCred O₀ c : sProp 𝕄) ⊢ creds c := by
  unfold Pipeline.launchCred
  refine (bigSep_subset (Finset.subset_univ (Finset.univ.map ⟨_, credAt_injective c⟩))).trans ?_
  rw [bigSep_map, bigSep_univ_sum, bigSep_univ_prod, over_bool, show (Finset.univ : Finset Unit) = {()} from rfl, bigSep_singleton]
  unfold creds
  refine Entails.of_eq (congrArg₂ (fun A B : sProp 𝕄 => iprop(A ∗ B)) ?_ (congrArg₂ (fun A B : sProp 𝕄 => iprop(A ∗ B)) ?_ ?_))
  · exact congrArg cred (launch_bar c)
  · exact bigSep_congr fun o _ => congrArg cred (launch_recv false c (peer c o) (peer_ne c o))
  · exact bigSep_congr fun o _ => congrArg cred (launch_recv true c (peer c o) (peer_ne c o))

/-! ## What the body starts from -/

/-- What device `c` knows and has when the kernel is entered, beside its buffers. -/
def start (c : Dev nD) : sProp 𝕄 := iprop((∃ K, records m K) ∗ pos c ∗ toks c ∗ creds c)

/-- The scratch buffers. -/
def scratch (c : Dev nD) : sProp 𝕄 := iprop((∃ f, pbP c f) ∗ (∃ f, rbPts c fullShare f) ∗ (∃ f, bufPts false c f) ∗ ∃ f, bufPts true c f)

theorem slots_of (b : Bool) (c : Dev nD) : (iprop(∃ f, bufPts b c f) : sProp 𝕄)
    ⊢ iprop((∃ f, slPts b c c f) ∗ bigSep Finset.univ fun o => iprop(∃ f, slPts b c (peer c o) f)) := by
  iintro ⟨%f, H⟩
  have he (o : Fin 31) : (slPts b c (peer c o) f : sProp 𝕄) ⊢ iprop(∃ f, slPts b c (peer c o) f) := by
    iintro H; iexists f; iexact H
  ihave H := (Entails.of_eq (rb_pieces b c f)) $$ H
  icases H with ⟨H1, H2⟩
  isplitl [H1]; · iexists f; iexact H1
  iapply (show (bigSep Finset.univ fun o => slPts b c (peer c o) f : sProp 𝕄) ⊢ bigSep Finset.univ fun o => iprop(∃ f, slPts b c (peer c o) f) from
    bigSep_mono fun o _ => he o)
  iexact H2

theorem pos_eq (c : Dev nD) : (pos c : sProp 𝕄)
    = iprop(atPos ER (barC c) 0 ∅ 0 ∗ ((sendPos false c ∗ bigSep Finset.univ fun s => atPos ER (recvC false c s) 0 ∅ 0)
      ∗ (sendPos true c ∗ bigSep Finset.univ fun s => atPos ER (recvC true c s) 0 ∅ 0))) := by
  unfold pos sendPos
  rw [over_cel, over_own]
  rfl

/-- The launch's deal, as the body takes it. -/
theorem held_intro (c : Dev nD) : iprop(start m c ∗ scratch c ∗ ops m c ∗ ∃ f, outP c f)
    ⊢ iprop(∃ K, records m K ∗ bigSep (todo 0) (sigRes c) ∗ held m c) := by
  unfold start scratch creds
  rw [pos_eq, around c (fun s => atPos ER (recvC false c s) 0 ∅ 0), around c (fun s => atPos ER (recvC true c s) 0 ∅ 0), todo_zero]
  iintro ⟨⟨⟨%K, Hr⟩, ⟨Hb, ⟨Hs1, Ho1, Hp1⟩, Hs2, Ho2, Hp2⟩, Htk, Hcb, Hc1, Hc2⟩, ⟨Hpb, Hrb, Hb1, Hb2⟩, Hops, Hout⟩
  ihave Htk := (toks_split (F := F) c) $$ Htk
  icases Htk with ⟨Ht, Hse1, Hse2⟩
  iexists K
  isplitl [Hr]; · iexact Hr
  ihave Hb1 := (slots_of (F := F) false c) $$ Hb1
  ihave Hb2 := (slots_of (F := F) true c) $$ Hb2
  icases Hb1 with ⟨Hm1, Hb1⟩
  icases Hb2 with ⟨Hm2, Hb2⟩
  isplitl [Ht Hb1 Hb2]
  · unfold sigRes barPay
    rw [bigSep_sep', bigSep_sep']
    isplitl [Ht]; · iexact Ht
    isplitl [Hb1]; · iexact Hb1
    iexact Hb2
  unfold held barIn waitRes selfPos
  rw [todo_zero, bigSep_sep', bigSep_sep']
  isplitl [Hops]; · iexact Hops
  isplitl [Hpb]; · iexact Hpb
  isplitl [Hb Hcb]
  · isplitl [Hb] <;> iassumption
  isplitl [Hse1]; · iexact Hse1
  isplitl [Hm1]; · iexact Hm1
  isplitl [Hp1 Hc1]
  · isplitl [Hp1] <;> iassumption
  isplitl [Hrb]; · iexact Hrb
  isplitl [Hse2]; · iexact Hse2
  isplitl [Hm2]; · iexact Hm2
  isplitl [Hp2 Hc2]
  · isplitl [Hp2] <;> iassumption
  isplitl [Hout]; · iexact Hout
  isplitl [Hs1]; · iexact Hs1
  isplitl [Hs2]; · iexact Hs2
  isplitl [Ho1] <;> iassumption

/-- What the launch takes back. -/
theorem ended_exit (c : Dev nD) : ended c ⊢ iprop(unscopedSems0 c ∗ own0 c ∗ scratch (F := F) c) := by
  unfold ended zeros scratch own0 Pipeline.ownSems0
  rw [unscopedSems0_eq, over_own]
  iintro ⟨H1, H2, H3, H4, H5, H6, H7⟩
  isplitl [H7]; · iexact H7
  isplitl [H5 H6]
  · isplitl [H5]; · iexact H5
    iexact H6
  isplitl [H1]; · iexact H1
  isplitl [H2]; · iexact H2
  isplitl [H3] <;> iassumption

end Cert.KProof

end
-- ==== Proof.Launch.lean ====
/-
The run of the whole mesh: every device's body from the launch's deal, and what the arrays hold at the end.
-/
module

public import proofs.«01_k».proof.Proof.Body
public import proofs.«01_k».proof.Proof.Setup
public import proofs.«01_k».proof.Proof.Gen.KernelIdeal.Points
public import Idealize.ShloMosaic.Lib.Pipeline.CollectiveSegs
public import Idealize.ShloMosaic.Adequacy
public import Idealize.ShloMosaic.Init

@[expose] public section

set_option maxRecDepth 16384

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

variable (ρ : Dev nD → PrngReg)

/-- The memory at the start: the given contents, every counter at zero. -/
def s₀ : MemSt nD τ sig (Elt F) := ⟨m, fun _ => 0, ρ⟩

/-! ## The pipeline's data: one point -/

def Φ₀ (c : Dev nD) : sProp 𝕄 := iprop(start m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => rwC m c
    | ⟨2, _⟩ => ixC m c
    | ⟨3, _⟩ => ewC m c
    | ⟨4, _⟩ => outV m c
  Φ t := match t with
    | ⟨0, _⟩ => Φ₀ m c
    | ⟨_ + 1, _⟩ => ended c
  q _ := fullShare
  owed t := match t with
    | ⟨0, _⟩ => O₀ c
    | ⟨_ + 1, _⟩ => 0

theorem over_windows (Φ : Fin cfg0.W → sProp 𝕄) :
    bigSep Finset.univ Φ = iprop(Φ (0 : Fin 5) ∗ Φ (1 : Fin 5) ∗ Φ (2 : Fin 5) ∗ Φ (3 : Fin 5) ∗ Φ (4 : Fin 5)) := bigSep_W0 Φ

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- Staging buffer `b` of device `c` holding `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem stg_intro (c : Dev nD) (b : Ref sig .tc) (X : b.ty.Contents (Elt F)) :
    (((c : Thread nD τ).loc b) ↦{fullShare} X : sProp 𝕄) ⊢ stg c b X := by
  iintro H
  iexists X
  isplitr; · (ipureintro; rfl)
  iexact H

def bodyPre (c : Dev nD) : sProp 𝕄 :=
  iprop(Φ₀ m c ∗ (dats m 0 c).owesAt () t0_0.castSucc
    ∗ (∃ d, stg c cc0_stg0_0 ((dats m 0 c).before (0 : Fin 5) t0_0 d))
    ∗ (∃ d, stg c cc0_stg1_0 ((dats m 0 c).before (1 : Fin 5) t0_0 d))
    ∗ (∃ d, stg c cc0_stg2_0 ((dats m 0 c).before (2 : Fin 5) t0_0 d))
    ∗ (∃ d, stg c cc0_stg3_0 ((dats m 0 c).before (3 : Fin 5) t0_0 d))
    ∗ (∃ d, stg c cc0_stg4_0 ((dats m 0 c).before (4 : Fin 5) t0_0 d)))

def bodyPost (c : Dev nD) : sProp 𝕄 :=
  iprop(ended c ∗ (dats m 0 c).owesAt () t0_0.succ
    ∗ stg c cc0_stg0_0 (xC m c) ∗ stg c cc0_stg1_0 (rwC m c) ∗ stg c cc0_stg2_0 (ixC m c) ∗ stg c cc0_stg3_0 (ewC m c)
    ∗ stg c cc0_stg4_0 (outV m c))

theorem staged_x (c : Dev nD) (d) : (dats m 0 c).before (0 : Fin 5) t0_0 d = xC m c := by
  unfold Dat.before; rw [if_pos (fetch0_0 t0_0)]; rfl
theorem staged_rw (c : Dev nD) (d) : (dats m 0 c).before (1 : Fin 5) t0_0 d = rwC m c := by
  unfold Dat.before; rw [if_pos (fetch0_1 t0_0)]; rfl
theorem staged_ix (c : Dev nD) (d) : (dats m 0 c).before (2 : Fin 5) t0_0 d = ixC m c := by
  unfold Dat.before; rw [if_pos (fetch0_2 t0_0)]; rfl
theorem staged_ew (c : Dev nD) (d) : (dats m 0 c).before (3 : Fin 5) t0_0 d = ewC m c := by
  unfold Dat.before; rw [if_pos (fetch0_3 t0_0)]; rfl

/-- The body's start out of the pipeline's. -/
theorem pre_body (c : Dev nD) : bodyPre m c
    ⊢ iprop(∃ K, records m K ∗ owing c (O₀ c) ∗ bigSep (todo 0) (sigRes c) ∗ held m c) := by
  unfold bodyPre Φ₀ Dat.owesAt Pipeline.owesWithin
  rw [show (dats m 0 c).owed t0_0.castSucc = O₀ c from rfl]
  iintro ⟨⟨Hs, Hsc⟩, ⟨%W, %hW, HO⟩, ⟨%d0, %g0, %h0, H0⟩, ⟨%d1, %g1, %h1, H1⟩, ⟨%d2, %g2, %h2, H2⟩, ⟨%d3, %g3, %h3, H3⟩, ⟨%d4, %g4, %h4, H4⟩⟩
  obtain rfl := h0.trans (staged_x m c d0)
  obtain rfl := h1.trans (staged_rw m c d1)
  obtain rfl := h2.trans (staged_ix m c d2)
  obtain rfl := h3.trans (staged_ew m c d3)
  ihave H := (held_intro m c) $$ [Hs Hsc H0 H1 H2 H3 H4]
  · isplitl [Hs]; · iexact Hs
    isplitl [Hsc]; · iexact Hsc
    isplitl [H0 H1 H2 H3]
    · unfold ops xP rwP ixP ewP
      isplitl [H0]; · iexact H0
      isplitl [H1]; · iexact H1
      isplitl [H2] <;> iassumption
    iexists g4; unfold outP; iexact H4
  icases H with ⟨%K, Hr, Hg, Hh⟩
  iexists K
  isplitl [Hr]; · iexact Hr
  isplitl [HO]; · unfold owing; iexists W; iexact HO
  isplitl [Hg] <;> iassumption

/-- The pipeline's end out of the body's. -/
theorem post_body (c : Dev nD) : iprop(owing c 0 ∗ ended c ∗ ops m c ∗ outP c (outV m c)) ⊢ bodyPost m c := by
  unfold bodyPost Dat.owesAt Pipeline.owesWithin ops xP rwP ixP ewP outP owing
  rw [show (dats m 0 c).owed t0_0.succ = 0 from rfl]
  iintro ⟨⟨%W, HO⟩, He, ⟨H0, H1, H2, H3⟩, H4⟩
  isplitl [He]; · iexact He
  isplitl [HO]
  · iexists W
    isplitr; · ipureintro; exact fun _ _ => Or.inl trivial
    iexact HO
  isplitl [H0]; · iapply (stg_intro c cc0_stg0_0 (xC m c)); iexact H0
  isplitl [H1]; · iapply (stg_intro c cc0_stg1_0 (rwC m c)); iexact H1
  isplitl [H2]; · iapply (stg_intro c cc0_stg2_0 (ixC m c)); iexact H2
  isplitl [H3]; · iapply (stg_intro c cc0_stg3_0 (ewC m c)); iexact H3
  iapply (stg_intro c cc0_stg4_0 (outV m c)); iexact H4

theorem body_obligation (c : Dev nD) : BodyObligation (dats (F := F) m 0 c) (defs₀ (F := F)) 𝒱₀ () Set.univ := fun t => by
  rw [fin_N0 t, over_windows, over_windows]
  simp only [owns_whole]
  show bodyPre m c ⊢ runs c body (fun _ => bodyPost m c)
  refine (pre_body m c).trans ?_
  iintro ⟨%K, H⟩
  iapply (run_body m K c (post_body m c)) $$ H

/-! ## The launch -/

theorem ownSemFacts : Pipeline.OwnSemFacts cfg0.spec osem := by decide

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  unfold G' book
  icases HG with ⟨⟨%K, HI⟩, Hp, Ht⟩
  imodintro
  unfold start records
  isplitl
  · isplitl [HI Hlev]
    · iexists K
      isplitl [HI] <;> iassumption
    isplitl [Hp]; · iexact Hp
    isplitl [Ht] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch pbP rbPts bufPts
  iintro ⟨Hs, -, H⟩
  isplitl [Hs]; · iexact Hs
  iexact H

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = ended c from rfl, scopedRest0_eq]
  refine (ended_exit c).trans ?_
  unfold scratch pbP rbPts bufPts
  exact BI.Entails.refl _

theorem mayWait_stage (c : Dev nD) (q : DmaSem sig) (hq : lvS (.dma q) = 0) (O : Tal) (hO : O = O₀ c ∨ O = 0) :
    (levAts L lv : sProp 𝕄) ⊢ MayWait (c : Thread nD τ) (.dma q) () O := by
  rcases hO with rfl | rfl
  · exact mayWait_of fun g u h => ⟨(O₀_lv h).1, by rw [hq]; exact (O₀_lv h).2⟩
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What window `w`'s array holds at the end. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- From any memory with every counter at zero, every execution ends with each window's array at `finalA` and every
    counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays at the end -/

theorem kept_x (c : Dev nD) : finalA m c (0 : Fin 5) = m ((c : Thread nD τ).loc main_arg0) := (dats (F := F) m 0 c).arrAt_in (0 : Fin 5) rfl _
theorem kept_rw (c : Dev nD) : finalA m c (1 : Fin 5) = m ((c : Thread nD τ).loc main_arg1) := (dats (F := F) m 0 c).arrAt_in (1 : Fin 5) rfl _
theorem kept_ix (c : Dev nD) : finalA m c (2 : Fin 5) = m ((c : Thread nD τ).loc main_arg2) := (dats (F := F) m 0 c).arrAt_in (2 : Fin 5) rfl _
theorem kept_ew (c : Dev nD) : finalA m c (3 : Fin 5) = m ((c : Thread nD τ).loc main_arg3) := (dats (F := F) m 0 c).arrAt_in (3 : Fin 5) rfl _

end Cert.KProof

end
-- ==== Proof.Frames.lean ====
/-
Every program ends with its arguments unchanged and every counter at zero: the kernel at words and at the extended reals
(one run, over any floats), and the reference.
-/
module

public import proofs.«01_k».proof.Defs
public import proofs.«01_k».proof.Proof.Launch
public import proofs.«01_k».proof.Proof.Gen.Kernel
public import proofs.«01_k».proof.Proof.Gen.ReferenceIdeal.Run

@[expose] public section

set_option maxRecDepth 100000

noncomputable section

namespace Cert.KProof

open Idealize.ShloMosaic Idealize.ShloMosaic.TcCoe Idealize.SL.Sem

/-- The kernel's run over any floats: its arguments end unchanged, every counter at zero. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      (fun r => (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1)
        ∧ r.2.mem ((c : Thread Cert.KernelIdeal.nD Cert.KernelIdeal.τ).loc Cert.KernelIdeal.main_arg2) = m ((c : Thread Cert.KernelIdeal.nD Cert.KernelIdeal.τ).loc Cert.KernelIdeal.main_arg2)
        ∧ r.2.mem ((c : Thread Cert.KernelIdeal.nD Cert.KernelIdeal.τ).loc Cert.KernelIdeal.main_arg3) = m ((c : Thread Cert.KernelIdeal.nD Cert.KernelIdeal.τ).loc Cert.KernelIdeal.main_arg3))
        ∧ r.2.sem = fun _ => 0) :=
  (θ_run Cert.KernelIdeal.defs _ _).mono
    (fun _ h => ⟨fun c => ⟨(h.1 c (0 : Fin 5)).trans (kept_x m c), (h.1 c (1 : Fin 5)).trans (kept_rw m c),
      (h.1 c (2 : Fin 5)).trans (kept_ix m c), (h.1 c (3 : Fin 5)).trans (kept_ew m c)⟩, h.2⟩)
    (run_main m ρ)

theorem frame_ideal : Cert.quiescent_KernelIdeal := fun m ρ _ => frame_any m ρ

/-! The two printings of the kernel have one text: their body tables are one. -/

theorem body_same : Cert.Kernel.cc0_body (F := Bits) = Cert.KernelIdeal.cc0_body (F := Bits) := by rfl

theorem table_same : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) =>
    show Cert.Kernel.cc0_body (F := Bits) _ _ _ _ _ _ _ _ _ _ _ _ _ _ _ _ _ _ _ _ _ _
      = Cert.KernelIdeal.cc0_body (F := Bits) _ _ _ _ _ _ _ _ _ _ _ _ _ _ _ _ _ _ _ _ _ _
    rw [body_same]
  | ⟨_ + 1, h⟩, _ => exact absurd h (Nat.not_lt.2 (Nat.le_add_left _ _))

theorem defs_same : Cert.Kernel.defs (F := Bits) = Cert.KernelIdeal.defs (F := Bits) :=
  congrArg (Pipeline.defs (Cert.Kernel.pcfgs (F := Bits))) table_same

theorem frame_kernel : Cert.quiescent_Kernel := fun m ρ _ => by
  rw [defs_same]
  exact frame_any (F := Bits) m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.KProof

end
-- ==== Proof.Experts.lean ====
/-
The mathematics of the result, over the extended reals: the routing probabilities, an expert's output, the mixture of the two
experts a row names, and the fact that summing over all experts with the weights a row gives them is that mixture.
-/
module

public import Idealize.ShloMosaic.Lib.Pointwise

@[expose] public section

noncomputable section

namespace Cert.KProof

open Idealize.ShloMosaic

/-! ## The functions -/

variable (x : (⟨2, ![256, 128]⟩ : Shape).Idx → EReal) (rw : (⟨2, ![128, 64]⟩ : Shape).Idx → EReal)

/-- Row `i`'s score for expert `e`, -/
def score (i : Fin 256) (e : Fin 64) : EReal := ∑ k : Fin 128, x (ix2 i k) * rw (ix2 k e)
/-- its largest score, -/
def top (i : Fin 256) : EReal := Finset.univ.fold max (Ideal.ofBits .f32 0xFF800000#32) fun e : Fin 64 => score x rw i e
/-- the exponential of the score less the largest, -/
def raised (i : Fin 256) (e : Fin 64) : EReal := Ideal.exp (score x rw i e - top x rw i)
/-- and its probability for `e`. -/
def prob (i : Fin 256) (e : Fin 64) : EReal := Ideal.div (raised x rw i e) (∑ f : Fin 64, raised x rw i f)

/-- One expert's output at row `i`, column `o`, its weights a matrix. -/
def hidden (w : Fin 128 → Fin 256 → EReal) (i o : Fin 256) : EReal := ∑ k : Fin 128, x (ix2 i k) * w k o

/-- The mixture of the experts `e` and `f`, each by its share of their two probabilities. -/
def mixture (w : (⟨3, ![64, 128, 256]⟩ : Shape).Idx → EReal) (e f : Fin 64) (i o : Fin 256) : EReal :=
  Ideal.div (prob x rw i e) (prob x rw i e + prob x rw i f) * hidden x (fun k o => w (ix3 e k o)) i o
    + Ideal.div (prob x rw i f) (prob x rw i e + prob x rw i f) * hidden x (fun k o => w (ix3 f k o)) i o

/-! ## Sums over the experts -/

/-- Twice a weight times a value is twice their product. -/
theorem twice_mul (a y : EReal) : (a + a) * y = a * y + a * y := by
  rw [← two_nsmul, ← two_nsmul, EReal.nsmul_eq_mul, EReal.nsmul_eq_mul, mul_assoc]

/-- One of 64 values picked by its number. -/
theorem sum_pick (p : Fin 64 → EReal) (e : Fin 64) : (∑ f : Fin 64, if e = f then p f else 0) = p e := by
  rw [Finset.sum_ite_eq, if_pos (Finset.mem_univ _)]

/-- All experts' values, each by the weight a row gives it, sum to the two that the row names. -/
theorem sum_weighted (a b : EReal) (y : Fin 64 → EReal) (e f : Fin 64) (hab : e = f → a = b) :
    (∑ g : Fin 64, ((if e = g then a else 0) + (if f = g then b else 0)) * y g) = a * y e + b * y f := by
  by_cases h : e = f
  · subst h
    obtain rfl := hab rfl
    rw [← twice_mul, ← sum_pick (fun g => (a + a) * y g) e]
    refine Finset.sum_congr rfl fun g _ => ?_
    by_cases hg : e = g
    · simp only [if_pos hg]
    · simp only [if_neg hg, add_zero, zero_mul]
  · rw [← sum_pick (fun g => a * y g) e, ← sum_pick (fun g => b * y g) f, ← Finset.sum_add_distrib]
    refine Finset.sum_congr rfl fun g _ => ?_
    by_cases hg : e = g
    · have hf : ¬f = g := fun hf => h (hg.trans hf.symm)
      simp only [if_pos hg, if_neg hf, add_zero]
    · simp only [if_neg hg, zero_add]
      by_cases hf : f = g
      · simp only [if_pos hf]
      · simp only [if_neg hf, zero_mul]

/-- Expert `2 s + r`: the `r`-th on device `s`. -/
def expertOf (s : Fin 32) (r : Fin 2) : Fin 64 := ⟨2 * s.val + r.val, by omega⟩

/-- Two experts on each of 32 devices are all 64. -/
theorem sum_devices (f : Fin 64 → EReal) : (∑ s : Fin 32, (f (expertOf s 0) + f (expertOf s 1))) = ∑ e : Fin 64, f e := by
  have h : (∑ e : Fin 64, f e) = ∑ q : Fin 32 × Fin 2, f (expertOf q.1 q.2) := by
    refine (Equiv.sum_comp (finProdFinEquiv (m := 32) (n := 2)) f).symm.trans (Finset.sum_congr rfl fun q _ => congrArg f (Fin.ext ?_))
    show q.2.val + 2 * q.1.val = 2 * q.1.val + q.2.val
    omega
  rw [h, Fintype.sum_prod_type]
  exact Finset.sum_congr rfl fun s _ => (Fin.sum_univ_two fun r => f (expertOf s r)).symm

end Cert.KProof

end
-- ==== Proof.KernelValue.lean ====
/-
What the kernel's result holds, element by element, on every device: where every index of a row names an expert, the mixture
of the two.
-/
module

public import proofs.«01_k».proof.Proof.Experts
public import proofs.«01_k».proof.Proof.Launch
public import Idealize.ShloMosaic.Lib.WordCmp

@[expose] public section

set_option maxRecDepth 16384

noncomputable section

namespace Cert.KProof

open Cert.KernelIdeal Cert.KernelIdeal.Gen
open Idealize.ShloMosaic Idealize.ShloMosaic.TcCoe
open Idealize.SL.Sem

/-! ## The operands and the result, whole blocks of their arrays -/

section Arrays

variable {F : FTy → Type} [FloatOps F]
variable (m : (ℓ : Loc nD τ sig) → Buf (Elt F) ℓ) (c : Dev nD)

/-- A rectangle from the origin with unit strides takes every index to the same coordinates. -/
theorem emb_origin {s : Shape} (r : Rect s) (h : ∀ a, r.off a = 0 ∧ r.stride a = 1) (j : r.shape.Idx) (a : Fin s.rank) :
    (r.emb j a : ℕ) = j a := by
  rw [Rect.emb_apply, (h a).1, (h a).2]; omega

theorem xC_eq : xC m c = m ((c : Thread nD τ).loc main_arg0) :=
  funext fun i => congrArg (m ((c : Thread nD τ).loc main_arg0))
    (funext fun a => Fin.ext (emb_origin (win0_0.rect (0 : Fin 1)) (by decide +kernel) i a))
theorem rwC_eq : rwC m c = m ((c : Thread nD τ).loc main_arg1) :=
  funext fun i => congrArg (m ((c : Thread nD τ).loc main_arg1))
    (funext fun a => Fin.ext (emb_origin (win0_1.rect (0 : Fin 1)) (by decide +kernel) i a))
theorem ixC_eq : ixC m c = m ((c : Thread nD τ).loc main_arg2) :=
  funext fun i => congrArg (m ((c : Thread nD τ).loc main_arg2))
    (funext fun a => Fin.ext (emb_origin (win0_2.rect (0 : Fin 1)) (by decide +kernel) i a))
theorem ewC_eq : ewC m c = m ((c : Thread nD τ).loc main_arg3) :=
  funext fun i => congrArg (m ((c : Thread nD τ).loc main_arg3))
    (funext fun a => Fin.ext (emb_origin (win0_3.rect (0 : Fin 1)) (by decide +kernel) i a))

theorem col0_at (f : S256x2.Idx → Elt F .i32) (i : Fin 256) : col0 (F := F) f (ix2 i 0) = f (ix2 i 0) := by
  show f ((Rect.unit (s := S256x2) ![0, 0] S256x1.size inb_S256x2_S256x1_0_0).toLoadRect.idx (ix2 i 0)) = _
  pointwise
theorem col1_at (f : S256x2.Idx → Elt F .i32) (i : Fin 256) : col1 (F := F) f (ix2 i 0) = f (ix2 i 1) := by
  show f ((Rect.unit (s := S256x2) ![0, 1] S256x1.size inb_S256x2_S256x1_0_1).toLoadRect.idx (ix2 i 0)) = _
  pointwise
theorem exp0_at (f : S2x128x256.Idx → Elt F .bf16) (k : Fin 128) (o : Fin 256) : exp0 (F := F) f (ix3 0 k o) = f (ix3 0 k o) := by
  show f ((Rect.unit (s := S2x128x256) ![0, 0, 0] S1x128x256.size inb_S2x128x256_S1x128x256_0_0_0).toLoadRect.idx (ix3 0 k o)) = _
  pointwise
theorem exp1_at (f : S2x128x256.Idx → Elt F .bf16) (k : Fin 128) (o : Fin 256) : exp1 (F := F) f (ix3 0 k o) = f (ix3 1 k o) := by
  show f ((Rect.unit (s := S2x128x256) ![1, 0, 0] S1x128x256.size inb_S2x128x256_S1x128x256_1_0_0).toLoadRect.idx (ix3 0 k o)) = _
  pointwise

theorem out_origin (j : ((win0_4.rect (0 : Fin 1)).shape).Idx) (a : Fin 2) : ((win0_4.rect (0 : Fin 1)).emb j a : ℕ) = j a :=
  emb_origin (win0_4.rect (0 : Fin 1)) (by decide +kernel) j a

/-- What the one point writes back is the result, -/
theorem flushed_out (t : Fin cfg0.N) : (dats m 0 c).flushed (4 : Fin 5) t = ((cfg0.win 4).blk t).view.read (Elt F) (outV m c) := by
  obtain rfl : t = t0_0 := fin_N0 t
  have ha : (dats m 0 c).after (4 : Fin 5) t0_0 = outV m c := by dsimp only [dats]
  unfold Pipeline.Dat.flushed
  rw [ha]
  exact (funext fun j => congrArg (outV m c) (funext fun a => Fin.ext (out_origin j a).symm))
/-- over the whole array, -/
theorem covered (i : S256x256.Idx) : ∃ t : Fin cfg0.N, (cfg0.win 4).flush t = true ∧ i ∈ ((cfg0.win 4).blk t).view.set := by
  refine ⟨t0_0, flush0_4 _, ?_⟩
  show i ∈ ((View.whole main_v1).slice (win0_4.rect (0 : Fin 1))).set
  rw [View.set_slice_whole, ← Rect.map_emb_univ]
  exact Finset.mem_map.mpr ⟨i, Finset.mem_univ _, funext fun a => Fin.ext (out_origin i a)⟩
/-- so the result's array ends at it. -/
theorem final_out : finalA m c (4 : Fin 5) = outV m c :=
  (dats m 0 c).arrAt_eq_of_cover (4 : Fin 5) (outV m c) (fun t _ => flushed_out m c t) covered

end Arrays

/-! ## The payloads, read at an index -/

theorem devW_eq : ∀ c : Dev nD, devW c = BitVec.ofNat 32 c.val := by decide +kernel

/-- A select on two small numbers' words being equal. -/
theorem select_word (a b : ℕ) (ha : a < 64) (hb : b < 64) (y z : EReal) :
    Scalar.select (IntOp.cmpi .eq (BitVec.ofNat 32 a) (BitVec.ofNat 32 b)) y z = if a = b then y else z := by
  rw [WordCmp.cmpi_eq_ofNat (by omega) (by omega), WordCmp.select_decide]

/-- The same by the experts themselves. -/
theorem select_expert (e g : Fin 64) (y z : EReal) :
    Scalar.select (IntOp.cmpi .eq (BitVec.ofNat 32 e.val) (BitVec.ofNat 32 g.val)) y z = if e = g then y else z :=
  (select_word e.val g.val e.isLt g.isLt y z).trans (if_congr Fin.ext_iff.symm rfl rfl)

/-- The number of a device's expert, as the program computes it. -/
theorem word_expert (s : Dev nD) (r : Fin 2) :
    Scalar.addi (Scalar.muli (devW s) 2#32) (BitVec.ofNat 32 r.val) = BitVec.ofNat 32 (expertOf s r).val := by
  revert s r; decide +kernel

theorem probs_at (x : Vec Ideal S256x128 .bf16) (rw : Vec Ideal S128x64 .bf16) (i : Fin 256) (e : Fin 64) :
    k0_pay2 x rw (ix2 i e) = prob x rw i e := by
  pointwise [k0_pay2, k0_pay1]
  rfl

variable (i o : Fin 256) (e f : Fin 64)

/-- The first gate: the row's probability for the expert its first index names. -/
theorem gate0_at (x : Vec Ideal S256x128 .bf16) (rw : Vec Ideal S128x64 .bf16) (c0 : Vec Ideal S256x1 .i32)
    (h : c0 (ix2 i 0) = BitVec.ofNat 32 e.val) : k0_pay5 x rw c0 (ix2 i 0) = prob x rw i e := by
  pointwise [k0_pay5, k0_pay3]
  refine (Finset.sum_congr rfl fun g _ => ?_).trans (sum_pick (prob x rw i) e)
  rw [h, select_expert, probs_at]

/-- The second, whose sum is taken where it is used. -/
theorem gate1_at (x : Vec Ideal S256x128 .bf16) (rw : Vec Ideal S128x64 .bf16) (c1 : Vec Ideal S256x1 .i32)
    (h : c1 (ix2 i 0) = BitVec.ofNat 32 f.val) : (∑ g : Fin 64, k0_pay6 x rw c1 (ix2 i g)) = prob x rw i f := by
  pointwise [k0_pay6, k0_pay4]
  refine (Finset.sum_congr rfl fun g _ => ?_).trans (sum_pick (prob x rw i) f)
  rw [h, select_expert, probs_at]

/-- A row's weight for expert `g`: the share of each of its two indices that names `g`. -/
def weight (p q : EReal) (g : Fin 64) : EReal :=
  (if e = g then Ideal.div p (p + q) else 0) + (if f = g then Ideal.div q (p + q) else 0)

/-- A device's partial result: its two experts' outputs, each by the row's weight for it. -/
theorem partial_at (s : Dev nD) (x : FVec Ideal S256x128 .bf16) (c0 c1 : IVec S256x1 32) (g0 : FVec Ideal S256x1 .f32)
    (g1 : FVec Ideal S256x64 .f32) (W0 W1 : Vec Ideal S1x128x256 .bf16)
    (h0 : c0 (ix2 i 0) = BitVec.ofNat 32 e.val) (h1 : c1 (ix2 i 0) = BitVec.ofNat 32 f.val) :
    k0_pay8 (k0_pay7 (devW s) x c0 c1 g0 g1 W0 W1) (ix2 i o)
      = weight e f (g0 (ix2 i 0)) (∑ g : Fin 64, g1 (ix2 i g)) (expertOf s 0) * hidden x (fun k o => W0 (ix3 0 k o)) i o
        + weight e f (g0 (ix2 i 0)) (∑ g : Fin 64, g1 (ix2 i g)) (expertOf s 1) * hidden x (fun k o => W1 (ix3 0 k o)) i o := by
  have w0 : Scalar.addi (Scalar.muli (devW s) 2#32) 0#32 = BitVec.ofNat 32 (expertOf s 0).val := word_expert s 0
  have w1 : Scalar.addi (Scalar.muli (devW s) 2#32) 1#32 = BitVec.ofNat 32 (expertOf s 1).val := word_expert s 1
  pointwise [k0_pay7, k0_pay8]
  rw [w0, w1, h0, h1]
  simp only [select_expert]
  rfl

/-! ## The result on every device -/

variable (m : (ℓ : Loc nD τ sig) → Buf (Elt Ideal) ℓ)

/-- The result at `(i, o)` sums every device's partial result there. -/
theorem out_sum (c : Dev nD) : outV m c (ix2 i o) = ∑ s : Fin 32, accV m s (ix2 i o) := by
  pointwise [outV, k0_pay12, recv2V, rbufV, k0_pay10, recv1V]
  refine Finset.sum_congr rfl fun s _ => congrArg (accV m s) ?_
  funext a
  refine Fin.ext ?_
  match a with
  | ⟨0, _⟩ => exact Nat.div_add_mod i.val 8
  | ⟨1, _⟩ => rfl

variable (x : (⟨2, ![256, 128]⟩ : Shape).Idx → EReal) (rw : (⟨2, ![128, 64]⟩ : Shape).Idx → EReal)
variable (ix : (⟨2, ![256, 2]⟩ : Shape).Idx → BitVec 32) (w : (⟨3, ![64, 128, 256]⟩ : Shape).Idx → EReal)

/-- Where every device holds the same rows, router and indices, and its two experts of all 64: the result at `(i, o)`, where row
    `i` names the experts `e` and `f`, is their mixture. -/
theorem out_at (c : Dev nD) (hx : ∀ s : Dev nD, m ((s : Thread nD τ).loc main_arg0) = x)
    (hr : ∀ s : Dev nD, m ((s : Thread nD τ).loc main_arg1) = rw) (hi : ∀ s : Dev nD, m ((s : Thread nD τ).loc main_arg2) = ix)
    (hw : ∀ (s : Dev nD) (r : Fin 2) (k : Fin 128) (o : Fin 256), m ((s : Thread nD τ).loc main_arg3) (ix3 r k o) = w (ix3 (expertOf s r) k o))
    (he : ix (ix2 i 0) = BitVec.ofNat 32 e.val) (hf : ix (ix2 i 1) = BitVec.ofNat 32 f.val) :
    outV m c (ix2 i o) = mixture x rw w e f i o := by
  have hacc : ∀ s : Fin 32, accV m s (ix2 i o)
      = weight e f (prob x rw i e) (prob x rw i f) (expertOf s 0) * hidden x (fun k o => w (ix3 (expertOf s 0) k o)) i o
        + weight e f (prob x rw i e) (prob x rw i f) (expertOf s 1) * hidden x (fun k o => w (ix3 (expertOf s 1) k o)) i o := fun s => by
    have c0 : col0 (F := Ideal) (ixC m s) (ix2 i 0) = BitVec.ofNat 32 e.val := by rw [col0_at, ixC_eq, hi, he]
    have c1 : col1 (F := Ideal) (ixC m s) (ix2 i 0) = BitVec.ofNat 32 f.val := by rw [col1_at, ixC_eq, hi, hf]
    have p3 : k0_pay3 (F := Ideal) (col0 (ixC m s)) (ix2 i 0) = BitVec.ofNat 32 e.val := by pointwise [k0_pay3]; exact c0
    have p4 : k0_pay4 (F := Ideal) (col1 (ixC m s)) (ix2 i 0) = BitVec.ofNat 32 f.val := by pointwise [k0_pay4]; exact c1
    have p1 : k0_pay1 (xC m s) = x := by
      funext j; idx_vars j; pointwise [k0_pay1]; rw [xC_eq, hx]
    have e0 : (fun k o => exp0 (F := Ideal) (ewC m s) (ix3 0 k o)) = fun k o => w (ix3 (expertOf s 0) k o) := by
      funext k o; rw [exp0_at, ewC_eq, hw]
    have e1 : (fun k o => exp1 (F := Ideal) (ewC m s) (ix3 0 k o)) = fun k o => w (ix3 (expertOf s 1) k o) := by
      funext k o; rw [exp1_at, ewC_eq, hw]
    unfold accV
    rw [partial_at i o e f s _ _ _ _ _ _ _ p3 p4, gate0_at i e _ _ _ c0, gate1_at i f _ _ _ c1, p1, e0, e1, xC_eq, rwC_eq, hx, hr]
  rw [out_sum, Finset.sum_congr rfl fun s _ => hacc s,
    sum_devices fun g => weight e f (prob x rw i e) (prob x rw i f) g * hidden x (fun k o => w (ix3 g k o)) i o]
  exact sum_weighted _ _ (fun g => hidden x (fun k o => w (ix3 g k o)) i o) e f fun h => by subst h; rfl

end Cert.KProof

end
-- ==== Proof.ReferenceValue.lean ====
/-
What the reference's result holds, element by element: where every index of a row names an expert, the mixture of the two.
-/
module

public import proofs.«01_k».proof.Proof.Experts
public import proofs.«01_k».proof.Proof.Gen.ReferenceIdeal.Run
public import Idealize.ShloMosaic.Lib.WordCmp

@[expose] public section

set_option maxRecDepth 16384

noncomputable section

namespace Cert.KProof.Ref

open Cert.ReferenceIdeal Cert.ReferenceIdeal.Gen Cert.ReferenceIdeal.Value
open Idealize.ShloMosaic Idealize.ShloMosaic.TcCoe
open Idealize.SL.Sem

/-! ## The gathers -/

/-- The gather by pairs `(row, column)`: where the pair at `i` is in range, the element it names. -/
theorem gather_pair {α : Type} (p : S256x64.Idx → α) (idx : IVec S256x2 32) (i r : Fin 256) (e : Fin 64)
    (hr : (idx (ix2 i 0)).toInt.toNat = r.val) (he : (idx (ix2 i 1)).toInt.toNat = e.val) :
    Host.gather gather_S256x64_S256x2_S256_n_01_n_n_01_1_11 p idx (ix1 i) = p (ix2 r e) := by
  unfold Host.gather
  refine congrArg p (funext fun a => Fin.ext ?_)
  match a with
  | ⟨0, _⟩ =>
    have h : (gather_S256x64_S256x2_S256_n_01_n_n_01_1_11.siIdx (ix1 i) (0 : Fin 2)) = ix2 i 0 := by
      funext b; match b with | ⟨0, _⟩ => rfl | ⟨1, _⟩ => rfl
    show min (idx (gather_S256x64_S256x2_S256_n_01_n_n_01_1_11.siIdx (ix1 i) (0 : Fin 2))).toInt.toNat 255 + 0 + 0 = r.val
    rw [h, hr]; omega
  | ⟨1, _⟩ =>
    have h : (gather_S256x64_S256x2_S256_n_01_n_n_01_1_11.siIdx (ix1 i) (1 : Fin 2)) = ix2 i 1 := by
      funext b; match b with | ⟨0, _⟩ => rfl | ⟨1, _⟩ => rfl
    show min (idx (gather_S256x64_S256x2_S256_n_01_n_n_01_1_11.siIdx (ix1 i) (1 : Fin 2))).toInt.toNat 63 + 0 + 0 = e.val
    rw [h, he]; omega

/-- The gather of whole experts: where the index at `i` is in range, that expert. -/
theorem gather_expert {α : Type} (w : S64x128x256.Idx → α) (idx : IVec S256x1 32) (i : Fin 256) (e : Fin 64) (k : Fin 128) (o : Fin 256)
    (he : (idx (ix2 i 0)).toInt.toNat = e.val) :
    Host.gather gather_S64x128x256_S256x1_S256x128x256_12_0_n_n_0_1_1128256 w idx (ix3 i k o) = w (ix3 e k o) := by
  unfold Host.gather
  refine congrArg w (funext fun a => Fin.ext ?_)
  match a with
  | ⟨0, _⟩ =>
    have h : (gather_S64x128x256_S256x1_S256x128x256_12_0_n_n_0_1_1128256.siIdx (ix3 i k o) (0 : Fin 1)) = ix2 i 0 := by
      funext b; match b with | ⟨0, _⟩ => rfl | ⟨1, _⟩ => rfl
    show min (idx (gather_S64x128x256_S256x1_S256x128x256_12_0_n_n_0_1_1128256.siIdx (ix3 i k o) (0 : Fin 1))).toInt.toNat 63 + 0 + 0 = e.val
    rw [h, he]; omega
  | ⟨1, _⟩ => show 0 + 0 + k.val = k.val; omega
  | ⟨2, _⟩ => show 0 + 0 + o.val = o.val; omega

/-! ## The result's parts, by name -/

/-- The table of scores and, from it, of probabilities. -/
def scoresV (x : FVec Ideal S256x128 .bf16) (rw : FVec Ideal S128x64 .bf16) : FVec Ideal S256x64 .f32 :=
  Host.dotGeneral dot_S256x128_S128x64_S256x64_1_0_0_1_n_n none (extf .f32 x bitsLt_bf16_f32) (extf .f32 rw bitsLt_bf16_f32)
def raisedV (s : FVec Ideal S256x64 .f32) : FVec Ideal S256x64 .f32 :=
  Host.exp (subf s (broadcastInDim S256x64 ![0, 1] bcast_S256x1_S256x64_0_1 (broadcastInDim S256x1 ![0] bcast_S256_S256x1_0
    (Host.reduce FloatOps.maximumf s (constant S_ .f32 0xFF800000#32) reducesTo_S256x64_S256_d1 h_S_))))
def probsV (r : FVec Ideal S256x64 .f32) : FVec Ideal S256x64 .f32 :=
  Host.divf r (broadcastInDim S256x64 ![0, 1] bcast_S256x1_S256x64_0_1 (broadcastInDim S256x1 ![0] bcast_S256_S256x1_0
    (Host.reduceAdd r (constant S_ .f32 0x00000000#32) reducesTo_S256x64_S256_d1 h_S_)))

/-- An index as it is read: a negative one counts from the end. -/
def wrapped (n : BitVec 32) (col : IVec S256 32) : IVec S256 32 :=
  select (cmpi .slt col (broadcastInDim S256 ![] bcast_S_S256 (constantI S_ 32 0#32)))
    (addi col (broadcastInDim S256 ![] bcast_S_S256 (constantI S_ 32 n))) col
/-- The pairs of a row's number and its index. -/
def pairsV (col : IVec S256 32) : IVec S256x2 32 :=
  concatenate S256x2 1 [⟨S256x1, broadcastInDim S256x1 ![0] bcast_S256_S256x1_0 (wrapped 256#32 (iotaInDim S256 32 0))⟩,
    ⟨S256x1, broadcastInDim S256x1 ![0] bcast_S256_S256x1_0 (wrapped 64#32 col)⟩] concatenates_S256x1_S256x1_S256x2_d1
/-- A row's probability for the expert its index names; -/
def gateV (p : FVec Ideal S256x64 .f32) (col : IVec S256 32) : FVec Ideal S256 .f32 :=
  Host.gather gather_S256x64_S256x2_S256_n_01_n_n_01_1_11 p (pairsV col)
/-- that expert's output. -/
def hiddenV (x : FVec Ideal S256x128 .bf16) (w : FVec Ideal S64x128x256 .bf16) (col : IVec S256 32) : FVec Ideal S256x256 .f32 :=
  Host.dotGeneral dot_S256x128_S256x128x256_S256x256_1_1_n_2_0_0 none (extf .f32 x bitsLt_bf16_f32)
    (Host.gather gather_S64x128x256_S256x1_S256x128x256_12_0_n_n_0_1_1128256 (extf .f32 w bitsLt_bf16_f32)
      (broadcastInDim S256x1 ![0] bcast_S256_S256x1_0 (wrapped 64#32 col)))
/-- One gate's share of the two, times an output. -/
def shareV (g s : FVec Ideal S256 .f32) (y : FVec Ideal S256x256 .f32) : FVec Ideal S256x256 .f32 :=
  mulf (broadcastInDim S256x256 ![0, 1] bcast_S256x1_S256x256_0_1 (broadcastInDim S256x1 ![0] bcast_S256_S256x1_0 (Host.divf g s))) y
/-- The two columns of the indices. -/
def col0V (ix : IVec S256x2 32) : IVec S256 32 :=
  shapeCast S256 (extractStridedSlice S256x1 ![0, 0] ix slices_S256x2_S256x1_0_0) shapeCasts_S256x1_S256
def col1V (ix : IVec S256x2 32) : IVec S256 32 :=
  shapeCast S256 (extractStridedSlice S256x1 ![0, 1] ix slices_S256x2_S256x1_0_1) shapeCasts_S256x1_S256
def mixedV (p : FVec Ideal S256x64 .f32) (x : FVec Ideal S256x128 .bf16) (w : FVec Ideal S64x128x256 .bf16) (c0 c1 : IVec S256 32) :
    FVec Ideal S256x256 .f32 :=
  addf (shareV (gateV p c0) (addf (gateV p c0) (gateV p c1)) (hiddenV x w c0))
    (shareV (gateV p c1) (addf (gateV p c0) (gateV p c1)) (hiddenV x w c1))

theorem result_eq (m : (ℓ : Loc nD τ sig) → Buf (Elt Ideal) ℓ) (c : Dev nD) :
    res_main_v71 m c = mixedV (probsV (raisedV (scoresV (m ((c.tc : Thread nD τ).loc main_arg0)) (m ((c.tc : Thread nD τ).loc main_arg1)))))
      (m ((c.tc : Thread nD τ).loc main_arg0)) (m ((c.tc : Thread nD τ).loc main_arg3))
      (col0V (m ((c.tc : Thread nD τ).loc main_arg2))) (col1V (m ((c.tc : Thread nD τ).loc main_arg2))) := rfl

/-! ## The parts, read at an index -/

theorem scoresV_at (x : FVec Ideal S256x128 .bf16) (rw : FVec Ideal S128x64 .bf16) (i : Fin 256) (e : Fin 64) :
    scoresV x rw (ix2 i e) = score x rw i e := by
  pointwise [scoresV]; rfl

theorem raisedV_at (x : FVec Ideal S256x128 .bf16) (rw : FVec Ideal S128x64 .bf16) (i : Fin 256) (e : Fin 64) :
    raisedV (scoresV x rw) (ix2 i e) = raised x rw i e := by
  pointwise [raisedV]
  simp only [scoresV_at]
  rfl

theorem probsV_at (x : FVec Ideal S256x128 .bf16) (rw : FVec Ideal S128x64 .bf16) (i : Fin 256) (e : Fin 64) :
    probsV (raisedV (scoresV x rw)) (ix2 i e) = prob x rw i e := by
  pointwise [probsV]
  simp only [raisedV_at]
  rfl

/-- A number below half the words is read as itself. -/
theorem wrapped_at (n : BitVec 32) (col : IVec S256 32) (i : Fin 256) (a : ℕ) (ha : a < 256) (h : col (ix1 i) = BitVec.ofNat 32 a) :
    (wrapped n col (ix1 i)).toInt.toNat = a := by
  have hn : (BitVec.ofNat 32 a).toNat = a := by rw [BitVec.toNat_ofNat]; omega
  pointwise [wrapped]
  rw [h, WordCmp.cmpi_slt_zero, WordCmp.select_decide, hn, if_neg (by omega), BitVec.toInt_eq_toNat_cond, hn, if_pos (by omega)]
  omega

variable (col : IVec S256 32) (i o : Fin 256) (e : Fin 64) (h : col (ix1 i) = BitVec.ofNat 32 e.val)
include h

theorem gateV_at (p : FVec Ideal S256x64 .f32) : gateV p col (ix1 i) = p (ix2 i e) := by
  unfold gateV
  refine gather_pair p _ i i e ?_ ?_
  · pointwise [pairsV]
    exact wrapped_at _ _ i i.val i.isLt rfl
  · pointwise [pairsV]
    exact wrapped_at _ _ i e.val (by omega) h

theorem hiddenV_at (x : FVec Ideal S256x128 .bf16) (w : FVec Ideal S64x128x256 .bf16) :
    hiddenV x w col (ix2 i o) = hidden x (fun k o => w (ix3 e k o)) i o := by
  pointwise [hiddenV]
  refine Finset.sum_congr rfl fun k _ => congrArg (fun a : EReal => x (ix2 i k) * a) ?_
  refine (gather_expert _ _ i e k o ?_).trans rfl
  pointwise
  exact wrapped_at _ _ i e.val (by omega) h

omit h

/-- The reference's result at `(i, o)`, where row `i` names the experts `e` and `f`. -/
theorem result_at (m : (ℓ : Loc nD τ sig) → Buf (Elt Ideal) ℓ) (c : Dev nD) (f : Fin 64)
    (he : m ((c.tc : Thread nD τ).loc main_arg2) (ix2 i 0) = BitVec.ofNat 32 e.val)
    (hf : m ((c.tc : Thread nD τ).loc main_arg2) (ix2 i 1) = BitVec.ofNat 32 f.val) :
    res_main_v71 m c (ix2 i o) = mixture (m ((c.tc : Thread nD τ).loc main_arg0)) (m ((c.tc : Thread nD τ).loc main_arg1))
      (m ((c.tc : Thread nD τ).loc main_arg3)) e f i o := by
  have h0 : col0V (m ((c.tc : Thread nD τ).loc main_arg2)) (ix1 i) = BitVec.ofNat 32 e.val := by
    rw [← he]; pointwise [col0V]
  have h1 : col1V (m ((c.tc : Thread nD τ).loc main_arg2)) (ix1 i) = BitVec.ofNat 32 f.val := by
    rw [← hf]; pointwise [col1V]
  rw [result_eq]
  pointwise [mixedV, shareV]
  rw [gateV_at _ i e h0, gateV_at _ i f h1, hiddenV_at _ i o e h0, hiddenV_at _ i o f h1, probsV_at, probsV_at]
  rfl

end Cert.KProof.Ref

end
-- ==== Proof.Equation.lean ====
/-
The value claim: where every routed index names an expert, the kernel's result on every device is the reference's.
-/
module

public import proofs.«01_k».proof.Proof.Frames
public import proofs.«01_k».proof.Proof.KernelValue
public import proofs.«01_k».proof.Proof.ReferenceValue

@[expose] public section

set_option maxRecDepth 16384

noncomputable section

namespace Cert.KProof

open Idealize.ShloMosaic Idealize.ShloMosaic.TcCoe Idealize.SL.Sem

instance facts_kernel_pre : Cert.Pre_experts_exist_KernelIdeal.Facts := ⟨by decide⟩
instance facts_reference_pre : Cert.Pre_experts_exist_ReferenceIdeal.Facts := ⟨by decide⟩

/-- Under the precondition every index is the word of an expert's number. -/
theorem names_expert (a0 : FVec Ideal ⟨2, ![256, 128]⟩ .bf16) (a1 : FVec Ideal ⟨2, ![128, 64]⟩ .bf16) (a2 : IVec ⟨2, ![256, 2]⟩ 32)
    (a3 : FVec Ideal ⟨3, ![2, 128, 256]⟩ .bf16) (h : Cert.Pre_experts_exist_KernelIdeal.fn a0 a1 a2 a3 = fun _ => 1#1) (i : Fin 256) (j : Fin 2) :
    ∃ e : Fin 64, a2 (ix2 i j) = BitVec.ofNat 32 e.val := by
  have hb := congrFun h (ix2 i j)
  pointwise [Cert.Pre_experts_exist_KernelIdeal.fn] at hb
  have hc : IntOp.andi (IntOp.cmpi .sge (a2 (ix2 i j)) 0#32) (IntOp.cmpi .slt (a2 (ix2 i j)) (BitVec.ofNat 32 64)) = 1#1 := hb
  rw [WordCmp.andi_sge_zero_slt_ofNat (by omega), WordCmp.ofBool_decide_eq_one_iff] at hc
  exact ⟨⟨(a2 (ix2 i j)).toNat, hc⟩, ((BitVec.ofNat_toNat 32 _).trans (BitVec.setWidth_eq _)).symm⟩

/-- The experts of a device in the whole bank. -/
theorem block_expert (h : Layout.Tiles ⟨3, ![2, 128, 256]⟩ ⟨3, ![64, 128, 256]⟩ 0 32)
    (w : (⟨3, ![64, 128, 256]⟩ : Shape).Idx → EReal) (s : Fin 32) (r : Fin 2) (k : Fin 128) (o : Fin 256) :
    Layout.block ⟨3, ![2, 128, 256]⟩ ⟨3, ![64, 128, 256]⟩ 0 32 s w h (ix3 r k o) = w (ix3 (expertOf s r) k o) := by
  rw [Layout.block_apply]
  refine congrArg w (funext fun a => Fin.ext ?_)
  rw [Layout.Tiles.idx_val]
  match a with
  | ⟨0, _⟩ => show s.val * 2 + r.val = 2 * s.val + r.val; omega
  | ⟨1, _⟩ => rfl
  | ⟨2, _⟩ => rfl

theorem value : Cert.algebraic_KernelIdeal_ReferenceIdeal_pre_experts_exist_KernelIdeal := fun m g m' g' hpre hargs => by
  refine ⟨Cert.ReferenceIdeal.Value.res_main_v71 m' 0, ?_, ?_⟩
  · refine (θ_run Cert.KernelIdeal.defs _ _).mono (fun r h c => ?_) (run_main m g)
    refine ⟨((h.1 c (4 : Fin 5)).trans (final_out m c)).trans (funext fun p => ?_), (h.1 c (0 : Fin 5)).trans (kept_x m c),
      (h.1 c (1 : Fin 5)).trans (kept_rw m c), (h.1 c (2 : Fin 5)).trans (kept_ix m c), (h.1 c (3 : Fin 5)).trans (kept_ew m c)⟩
    obtain ⟨i, o, rfl⟩ : ∃ (i o : Fin 256), p = ix2 i o := ⟨p 0, p 1, eq_ix2 p⟩
    obtain ⟨e, he⟩ := names_expert _ _ _ _ (hpre c) i 0
    obtain ⟨f, hf⟩ := names_expert _ _ _ _ (hpre c) i 1
    rw [(hargs c).2.2.1] at he hf
    refine (out_at i o e f m _ _ _ _ c (fun s => (hargs s).1) (fun s => (hargs s).2.1) (fun s => (hargs s).2.2.1)
      (fun s r k o => (congrFun (hargs s).2.2.2 (ix3 r k o)).trans (block_expert _ _ s r k o)) he hf).trans ?_
    exact (Ref.result_at i o e m' 0 f he hf).symm
  · exact (θ_run Cert.ReferenceIdeal.defs _ _).mono (fun r h => h 0) (Cert.ReferenceIdeal.Value.run m' g')

end Cert.KProof

end
-- ==== Proof.lean ====
/-
The certificate's claims, put together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Equation

@[expose] public section

noncomputable section

namespace Cert.Proof

theorem claim : Cert.Claim := ⟨Cert.Kernel.Gen.facts, Cert.KernelIdeal.Gen.facts, Cert.ReferenceIdeal.Gen.facts,
  Cert.KProof.facts_kernel_pre, Cert.KProof.facts_reference_pre, Cert.KProof.frame_kernel, Cert.KProof.frame_ideal,
  fun m ρ _ => Cert.KProof.frame_ideal m ρ trivial, Cert.KProof.frame_reference,
  fun m ρ _ => Cert.KProof.frame_reference m ρ trivial, trivial, Cert.KProof.value⟩

end Cert.Proof

end
